-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S64x2048x128 : Shape := ⟨3, ![64, 2048, 128]⟩
abbrev S64x2048 : Shape := ⟨2, ![64, 2048]⟩
abbrev S64 : Shape := ⟨1, ![64]⟩
abbrev S64x128x2048 : Shape := ⟨3, ![64, 128, 2048]⟩
abbrev S128x2048 : Shape := ⟨2, ![128, 2048]⟩
abbrev S_ : Shape := ⟨0, ![]⟩

class Facts : Prop where
  bcast_S_S64x2048x128 : S_.BroadcastsInDim S64x2048x128 (![] : Fin 0 → Fin S64x2048x128.rank)
  reducesTo_S64x2048x128_S_d0_1_2 : S64x2048x128.ReducesTo [0, 1, 2] S_
  h_S_ : 0 < S_.numel
  bcast_S_S64x128x2048 : S_.BroadcastsInDim S64x128x2048 (![] : Fin 0 → Fin S64x128x2048.rank)
  reducesTo_S64x128x2048_S_d0_1_2 : S64x128x2048.ReducesTo [0, 1, 2] S_

variable [Facts]

def fn_part1 {F : FTy → Type} [FloatOps F] (main_v5 : IVec S_ 1) (main_v16 : IVec S_ 1) : IVec S_ 1 :=
  let main_v17 : IVec S_ 1 := andi main_v5 main_v16
  main_v17

def fn {F : FTy → Type} [FloatOps F] (main_arg0 : FVec F S64x2048x128 .f32) (main_arg1 : FVec F S64x2048x128 .f32) (main_arg2 : FVec F S64x2048 .f32) (main_arg3 : FVec F S64x2048x128 .f32) (main_arg4 : IVec S64 32) (main_arg5 : FVec F S64x128x2048 .f32) (main_arg6 : FVec F S64x128x2048 .f32) (main_arg7 : FVec F S64 .f32) (main_arg8 : FVec F S128x2048 .f32) (main_arg9 : FVec F S128x2048 .f32) : IVec S_ 1 :=
  let main_cst : FVec F S_ .f32 := constant S_ .f32 0x00000000#32
  let main_v0 : FVec F S64x2048x128 .f32 := broadcastInDim S64x2048x128 ![] bcast_S_S64x2048x128 main_cst
  let main_v1 : IVec S64x2048x128 1 := cmpf .oeq main_arg1 main_v0
  let main_cst_0 : FVec F S_ .f32 := constant S_ .f32 0x3F800000#32
  let main_v2 : FVec F S64x2048x128 .f32 := broadcastInDim S64x2048x128 ![] bcast_S_S64x2048x128 main_cst_0
  let main_v3 : IVec S64x2048x128 1 := cmpf .oeq main_arg1 main_v2
  let main_v4 : IVec S64x2048x128 1 := ori main_v1 main_v3
  let main_c : IVec S_ 1 := constantI S_ 1 1#1
  let main_v5 : IVec S_ 1 := (fun x v => Host.reduce IntOp.andi x v reducesTo_S64x2048x128_S_d0_1_2 h_S_) main_v4 main_c
  let main_cst_1 : FVec F S_ .f32 := constant S_ .f32 0x4B000000#32
  let main_v6 : FVec F S64x128x2048 .f32 := broadcastInDim S64x128x2048 ![] bcast_S_S64x128x2048 main_cst_1
  let main_v7 : FVec F S64x128x2048 .f32 := mulf main_arg6 main_v6
  let main_v8 : FVec F S64x128x2048 .f32 := Host.floor main_v7
  let main_v9 : IVec S64x128x2048 1 := cmpf .oeq main_v7 main_v8
  let main_cst_2 : FVec F S_ .f32 := constant S_ .f32 0x00000000#32
  let main_v10 : FVec F S64x128x2048 .f32 := broadcastInDim S64x128x2048 ![] bcast_S_S64x128x2048 main_cst_2
  let main_v11 : IVec S64x128x2048 1 := cmpf .oge main_arg6 main_v10
  let main_v12 : IVec S64x128x2048 1 := andi main_v9 main_v11
  let main_cst_3 : FVec F S_ .f32 := constant S_ .f32 0x3F800000#32
  let main_v13 : FVec F S64x128x2048 .f32 := broadcastInDim S64x128x2048 ![] bcast_S_S64x128x2048 main_cst_3
  let main_v14 : IVec S64x128x2048 1 := cmpf .olt main_arg6 main_v13
  let main_v15 : IVec S64x128x2048 1 := andi main_v12 main_v14
  let main_c_4 : IVec S_ 1 := constantI S_ 1 1#1
  let main_v16 : IVec S_ 1 := (fun x v => Host.reduce IntOp.andi x v reducesTo_S64x128x2048_S_d0_1_2 h_S_) main_v15 main_c_4
  fn_part1 (F := F) main_v5 main_v16
-- ==== Kernel.lean ====
abbrev S64x2048x128 : Shape := ⟨3, ![64, 2048, 128]⟩
abbrev S64x2048 : Shape := ⟨2, ![64, 2048]⟩
abbrev S64 : Shape := ⟨1, ![64]⟩
abbrev S64x128x2048 : Shape := ⟨3, ![64, 128, 2048]⟩
abbrev S128x2048 : Shape := ⟨2, ![128, 2048]⟩
abbrev S50 : Shape := ⟨1, ![50]⟩
abbrev S_ : Shape := ⟨0, ![]⟩
abbrev S64x1 : Shape := ⟨2, ![64, 1]⟩
abbrev S64x1x1 : Shape := ⟨3, ![64, 1, 1]⟩
abbrev S1x1 : Shape := ⟨2, ![1, 1]⟩
abbrev S1x1x1 : Shape := ⟨3, ![1, 1, 1]⟩
abbrev S1x2048x128 : Shape := ⟨3, ![1, 2048, 128]⟩
abbrev S1x128x2048 : Shape := ⟨3, ![1, 128, 2048]⟩
abbrev S2048x128 : Shape := ⟨2, ![2048, 128]⟩
abbrev S1 : Shape := ⟨1, ![1]⟩
abbrev S8x2048 : Shape := ⟨2, ![8, 2048]⟩
abbrev S1x8x2048 : Shape := ⟨3, ![1, 8, 2048]⟩

abbrev nBuf : Space → Nat
  | .hbm => 29
  | .vmem => 9
  | .smem => 7
  | _ => 0

abbrev bufTy : (tb : Table) → Fin (tcTables nBuf tb) → BufTy
  | .hbm, ⟨0, _⟩ => ⟨S64x2048x128, .f32⟩
  | .hbm, ⟨1, _⟩ => ⟨S64x2048x128, .f32⟩
  | .hbm, ⟨2, _⟩ => ⟨S64x2048, .f32⟩
  | .hbm, ⟨3, _⟩ => ⟨S64x2048x128, .f32⟩
  | .hbm, ⟨4, _⟩ => ⟨S64, .i32⟩
  | .hbm, ⟨5, _⟩ => ⟨S64x128x2048, .f32⟩
  | .hbm, ⟨6, _⟩ => ⟨S64x128x2048, .f32⟩
  | .hbm, ⟨7, _⟩ => ⟨S64, .f32⟩
  | .hbm, ⟨8, _⟩ => ⟨S128x2048, .f32⟩
  | .hbm, ⟨9, _⟩ => ⟨S128x2048, .f32⟩
  | .hbm, ⟨10, _⟩ => ⟨S50, .f32⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S64x1, .i32⟩
  | .hbm, ⟨19, _⟩ => ⟨S64, .f32⟩
  | .hbm, ⟨20, _⟩ => ⟨S64, .f32⟩
  | .hbm, ⟨21, _⟩ => ⟨S64x1x1, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64x1x1, .f32⟩
  | .hbm, ⟨27, _⟩ => ⟨S64x1x1, .f32⟩
  | .hbm, ⟨28, _⟩ => ⟨S1x1, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S128x2048, .f32⟩
  | .local _ .smem, ⟨0, _⟩ => ⟨S1x1x1, .f32⟩
  | .local _ .smem, ⟨1, _⟩ => ⟨S1x1x1, .f32⟩
  | .local _ .smem, ⟨2, _⟩ => ⟨S1x1x1, .f32⟩
  | .local _ .smem, ⟨3, _⟩ => ⟨S1x1x1, .f32⟩
  | .local _ .smem, ⟨4, _⟩ => ⟨S1x1x1, .f32⟩
  | .local _ .smem, ⟨5, _⟩ => ⟨S1x1x1, .f32⟩
  | .local _ .smem, ⟨6, _⟩ => ⟨S1x1, .f32⟩
  | _, _ => ⟨S64x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_stg2_0 : Ref sig .tc := ⟨.smem, 4, rfl⟩
abbrev cc0_stg2_1 : Ref sig .tc := ⟨.smem, 5, rfl⟩
abbrev cc0_stg8_0 : Ref sig .tc := ⟨.smem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_13 : BitVec 32 := 0#32
  let c30_i32 : BitVec 32 := 30#32
  let v15 : BitVec 32 := Scalar.addi c0_i32_13 c30_i32
  let c1_i32 : BitVec 32 := 1#32
  ⟨c0_i32_13, v15, c1_i32⟩
@[reducible] def k0_t2_loop : Scf.Loop 32 :=
  let c0_i32_107 : BitVec 32 := 0#32
  let c30_i32_108 : BitVec 32 := 30#32
  let v632 : BitVec 32 := Scalar.addi c0_i32_107 c30_i32_108
  let c1_i32_109 : BitVec 32 := 1#32
  ⟨c0_i32_107, v632, c1_i32_109⟩
@[reducible] def k0_t3_loop : Scf.Loop 32 :=
  let c0_i32_106 : BitVec 32 := 0#32
  let c18_i32 : BitVec 32 := 18#32
  let v627 : BitVec 32 := Scalar.addi c0_i32_106 c18_i32
  let c1_i32_107 : BitVec 32 := 1#32
  ⟨c0_i32_106, v627, c1_i32_107⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S64x2048x128 : Shape := ⟨3, ![64, 2048, 128]⟩
abbrev S64x2048 : Shape := ⟨2, ![64, 2048]⟩
abbrev S64 : Shape := ⟨1, ![64]⟩
abbrev S64x128x2048 : Shape := ⟨3, ![64, 128, 2048]⟩
abbrev S128x2048 : Shape := ⟨2, ![128, 2048]⟩
abbrev S50 : Shape := ⟨1, ![50]⟩
abbrev S_ : Shape := ⟨0, ![]⟩
abbrev S64x1 : Shape := ⟨2, ![64, 1]⟩
abbrev S64x1x1 : Shape := ⟨3, ![64, 1, 1]⟩
abbrev S64x262144 : Shape := ⟨2, ![64, 262144]⟩
abbrev S1x128x2048 : Shape := ⟨3, ![1, 128, 2048]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S64x2048x128, .f32⟩
  | .hbm, ⟨1, _⟩ => ⟨S64x2048x128, .f32⟩
  | .hbm, ⟨2, _⟩ => ⟨S64x2048, .f32⟩
  | .hbm, ⟨3, _⟩ => ⟨S64x2048x128, .f32⟩
  | .hbm, ⟨4, _⟩ => ⟨S64, .i32⟩
  | .hbm, ⟨5, _⟩ => ⟨S64x128x2048, .f32⟩
  | .hbm, ⟨6, _⟩ => ⟨S64x128x2048, .f32⟩
  | .hbm, ⟨7, _⟩ => ⟨S64, .f32⟩
  | .hbm, ⟨8, _⟩ => ⟨S128x2048, .f32⟩
  | .hbm, ⟨9, _⟩ => ⟨S128x2048, .f32⟩
  | .hbm, ⟨10, _⟩ => ⟨S50, .f32⟩
  | .hbm, ⟨11, _⟩ => ⟨S64x128x2048, .f32⟩
  | .hbm, ⟨12, _⟩ => ⟨S64x128x2048, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64, .f32⟩
  | .hbm, ⟨22, _⟩ => ⟨S64x1x1, .f32⟩
  | .hbm, ⟨23, _⟩ => ⟨S64x1x1, .f32⟩
  | .hbm, ⟨24, _⟩ => ⟨S64x128x2048, .f32⟩
  | .hbm, ⟨25, _⟩ => ⟨S64x128x2048, .f32⟩
  | .hbm, ⟨26, _⟩ => ⟨S_, .f32⟩
  | .hbm, ⟨27, _⟩ => ⟨S64x1x1, .f32⟩
  | .hbm, ⟨28, _⟩ => ⟨S64x1x1, .f32⟩
  | .hbm, ⟨29, _⟩ => ⟨S64x1x1, .f32⟩
  | .hbm, ⟨30, _⟩ => ⟨S64x128x2048, .f32⟩
  | .hbm, ⟨31, _⟩ => ⟨S64x128x2048, .f32⟩
  | .hbm, ⟨32, _⟩ => ⟨S64x128x2048, .f32⟩
  | .hbm, ⟨33, _⟩ => ⟨S64x128x2048, .f32⟩
  | .hbm, ⟨34, _⟩ => ⟨S64x262144, .f32⟩
  | .hbm, ⟨35, _⟩ => ⟨S64x262144, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64x262144, .f32⟩
  | .hbm, ⟨41, _⟩ => ⟨S64x262144, .i32⟩
  | .hbm, ⟨42, _⟩ => ⟨S64x262144, .f32⟩
  | .hbm, ⟨43, _⟩ => ⟨S64x262144, .i32⟩
  | .hbm, ⟨44, _⟩ => ⟨S64x262144, .i32⟩
  | .hbm, ⟨45, _⟩ => ⟨S64x262144, .i32⟩
  | .hbm, ⟨46, _⟩ => ⟨S64x262144, .i32⟩
  | .hbm, ⟨47, _⟩ => ⟨S64x1, .f32⟩
  | .hbm, ⟨48, _⟩ => ⟨S64x1, .i32⟩
  | .hbm, ⟨49, _⟩ => ⟨S64x262144, .i32⟩
  | .hbm, ⟨50, _⟩ => ⟨S64x262144, .i1⟩
  | .hbm, ⟨51, _⟩ => ⟨S_, .f32⟩
  | .hbm, ⟨52, _⟩ => ⟨S_, .f32⟩
  | .hbm, ⟨53, _⟩ => ⟨S64x262144, .f32⟩
  | .hbm, ⟨54, _⟩ => ⟨S64x262144, .f32⟩
  | .hbm, ⟨55, _⟩ => ⟨S_, .f32⟩
  | .hbm, ⟨56, _⟩ => ⟨S64x262144, .f32⟩
  | .hbm, ⟨57, _⟩ => ⟨S64x262144, .i1⟩
  | .hbm, ⟨58, _⟩ => ⟨S64x128x2048, .i1⟩
  | .hbm, ⟨59, _⟩ => ⟨S64x128x2048, .f32⟩
  | .hbm, ⟨60, _⟩ => ⟨S64x128x2048, .f32⟩
  | .hbm, ⟨61, _⟩ => ⟨S1x128x2048, .f32⟩
  | .hbm, ⟨62, _⟩ => ⟨S64x128x2048, .f32⟩
  | .hbm, ⟨63, _⟩ => ⟨S64x128x2048, .f32⟩
  | .hbm, ⟨64, _⟩ => ⟨S1x128x2048, .f32⟩
  | .hbm, ⟨65, _⟩ => ⟨S64x128x2048, .f32⟩
  | .hbm, ⟨66, _⟩ => ⟨S64x128x2048, .f32⟩
  | .hbm, ⟨67, _⟩ => ⟨S64x128x2048, .f32⟩
  | .hbm, ⟨68, _⟩ => ⟨S64x128x2048, .f32⟩
  | .hbm, ⟨69, _⟩ => ⟨S64x128x2048, .f32⟩
  | .hbm, ⟨70, _⟩ => ⟨S64x128x2048, .f32⟩
  | .hbm, ⟨71, _⟩ => ⟨S_, .f32⟩
  | .hbm, ⟨72, _⟩ => ⟨S64, .f32⟩
  | .hbm, ⟨73, _⟩ => ⟨S64x128x2048, .f32⟩
  | .hbm, ⟨74, _⟩ => ⟨S_, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S1x1, .f32⟩
  | _, _ => ⟨S64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call1_v0 : Ref sig .tc := ⟨.hbm, 41, rfl⟩
abbrev main_call1_v1_0 : Ref sig .tc := ⟨.hbm, 42, rfl⟩
abbrev main_v26 : Ref sig .tc := ⟨.hbm, 43, rfl⟩
abbrev main_call2_v0 : Ref sig .tc := ⟨.hbm, 44, rfl⟩
abbrev main_call2_v1_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_call3_v0 : Ref sig .tc := ⟨.hbm, 52, rfl⟩
abbrev main_call3_v1 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]
-- ==== Proof.Run.Model.lean ====
/-
  The kernel's pure content, over any float values: the words of the masked random values, one step of the value
  search and its exit, the tie search, one block of eight rows of the loss sums and the term one grid point adds.
  Each definition is what the printed body computes between its loads and its store, under names a reader can follow.
-/
module

public import proofs.«01_k».proof.Proof.Gen.KernelIdeal.Skeleton

@[expose] public section

set_option maxRecDepth 16384

noncomputable section

namespace Cert.Csdi

open Cert.KernelIdeal Cert.KernelIdeal.Gen
open Idealize.ShloMosaic

variable {F : FTy → Type} [FloatOps F]

/-! ## The words and the searches -/

/-- The words of the masked random values: the bit by bit search, and the word 0 at the value zero. -/
def words (v0 : Vec F S1x2048x128 .f32) (v6 : Vec F S1x128x2048 .f32) : IVec S128x2048 32 :=
  k0_pay12 v0 v6 (Scf.fold (fun (k : Fin k0_t1_loop.trips) acc => k0_pay11 v0 v6 k acc) k0_pay10)

/-- What the value search carries: the two ends of the interval and the counts of words at or above them. -/
abbrev St (F : FTy → Type) := BitVec 32 × BitVec 32 × F .f32 × F .f32

/-- The halved word, rounded down, as the floor division by two is spelt. -/
def half (x : BitVec 32) : BitVec 32 :=
  Scalar.select
    (Scalar.andi
      (Scalar.cmpi .ne (Scalar.subi (Scalar.extui (Scalar.cmpi .sgt x 0#32)) (Scalar.extui (Scalar.cmpi .slt x 0#32)) : BitVec 32)
        (Scalar.subi (Scalar.extui (Scalar.cmpi .sgt 2#32 0#32)) (Scalar.extui (Scalar.cmpi .slt 2#32 0#32))))
      (Scalar.cmpi .ne (Scalar.remsi x 2#32) 0#32))
    (Scalar.subi (Scalar.divsi x 2#32) 1#32) (Scalar.divsi x 2#32)

/-- The interpolated word. -/
def guess (kf : F .f32) (st : St F) : BitVec 32 :=
  Scalar.select (Scalar.cmpf .oeq (k0_pay89 kf st.1 st.2.1 st.2.2.1 st.2.2.2) (Scalar.ofBits .f32 0x00000000#32)) 0#32
    (Scf.fold (fun (k : Fin k0_t2_loop.trips) (acc : BitVec 32) =>
      Scalar.select (Scalar.cmpf .ole (k0_pay90 (F := F) k acc) (k0_pay89 kf st.1 st.2.1 st.2.2.1 st.2.2.2))
        (Scalar.ori acc (Scalar.shrsi 536870912#32 (Scf.iv 0#32 1#32 k))) acc) 0#32)

/-- A word brought into the open interval. -/
def clip (lo hi x : BitVec 32) : BitVec 32 :=
  Scalar.minsi (Scalar.subi hi 1#32) (Scalar.maxsi (Scalar.addi lo 1#32) x)

/-- The middle of the interval. -/
def middle (lo hi : BitVec 32) : BitVec 32 := Scalar.addi lo (half (Scalar.subi hi lo))

/-- The lower of the two words a step tests. -/
def probe1 (kf : F .f32) (st : St F) : BitVec 32 := clip st.1 st.2.1 (Scalar.minsi (guess kf st) (middle st.1 st.2.1))

/-- The upper of the two words a step tests. -/
def probe2 (kf : F .f32) (st : St F) : BitVec 32 := clip st.1 st.2.1 (Scalar.maxsi (guess kf st) (middle st.1 st.2.1))

/-- The count of words at or above a word, as the vector sum of ones. -/
abbrev countGe (vb : IVec S128x2048 32) (w : BitVec 32) : F .f32 := k0_pay2 vb w

/-- One step of the value search. -/
def step (kf : F .f32) (vb : IVec S128x2048 32) (st : St F) : St F :=
  let m1 := probe1 kf st
  let m2 := probe2 kf st
  let c1 : F .f32 := countGe vb m1
  let c2 : F .f32 := countGe vb m2
  let up := Scalar.cmpf .oge c2 kf
  let dn := Scalar.cmpf .olt c1 kf
  (Scalar.select up m2 (Scalar.select dn st.1 m1), Scalar.select up st.2.1 (Scalar.select dn m1 m2),
    Scalar.select up c2 (Scalar.select dn st.2.2.1 c1), Scalar.select up st.2.2.2 (Scalar.select dn c1 c2))

/-- The search goes on while the interval is longer than one. -/
def goesOn (st : St F) : Prop := Scalar.cmpi .sgt (Scalar.subi st.2.1 st.1) 1#32 = 1#1

instance (st : St F) : Decidable (goesOn st) := inferInstanceAs (Decidable (_ = _))

/-- The state after at most `n` steps, stopping where the search stops. -/
def iter (kf : F .f32) (vb : IVec S128x2048 32) : ℕ → St F → St F
  | 0, st => st
  | n + 1, st => if goesOn st then iter kf vb n (step kf vb st) else st

/-- The search's start: the whole interval of words of values in [0, 1). -/
def st0 : St F := (0#32, 1065353216#32, Scalar.ofBits .f32 0x48800000#32, Scalar.ofBits .f32 0x00000000#32)

/-- The interval's length at the start bounds the number of steps. -/
@[irreducible] def steps : ℕ := 1065353216

/-- The search's exit. -/
@[irreducible] def found (kf : F .f32) (vb : IVec S128x2048 32) : St F := iter kf vb steps st0

/-- One step of the tie search. -/
def tieStep (r : F .f32) (vb : IVec S128x2048 32) (v : BitVec 32) (s : BitVec 32 × BitVec 32) : BitVec 32 × BitVec 32 :=
  let c : F .f32 := k0_pay21 vb v s.1 s.2
  let take := Scalar.cmpf .oge c r
  let mid := half (Scalar.addi s.1 s.2)
  (Scalar.select take s.1 (Scalar.addi mid 1#32), Scalar.select take mid s.2)

/-- The tie search: eighteen halvings. -/
def tie (r : F .f32) (vb : IVec S128x2048 32) (v : BitVec 32) : BitVec 32 :=
  (Scf.fold (fun (_ : Fin k0_t3_loop.trips) s => tieStep r vb v s) (0#32, 262143#32)).1

/-! ## The loss sums -/

/-- Eight rows of a table, from row `8 n`. -/
theorem slices8 (n : Fin 16) : S128x2048.Slices ![8 * n.val, 0] S8x2048 := by
  revert n; decide

/-- Eight rows of a table, from row `8 n`. -/
abbrev rows {α : Type} (n : Fin 16) (x : S128x2048.Idx → α) : S8x2048.Idx → α :=
  extractStridedSlice S8x2048 ![8 * n.val, 0] x (slices8 n)

/-- The flat positions of those eight rows. -/
def places (n : Fin 16) : IVec S8x2048 32 :=
  addi (addi k0_pay22 (broadcast S8x2048 (BitVec.ofNat 32 (16384 * n.val)))) (iota .tc S8x2048 32 [1] iota_S8x2048_d1_w32)

/-- The evaluated positions among eight rows: observed, and chosen or of value zero. -/
def evald (om : FVec F S128x2048 .f32) (vb : IVec S128x2048 32) (v thr : BitVec 32) (n : Fin 16) : FVec F S8x2048 .f32 :=
  mulf (rows n om)
    (select
      (ori (ori (cmpi .sgt (rows n vb) (broadcast S8x2048 v))
          (andi (cmpi .eq (rows n vb) (broadcast S8x2048 v)) (cmpi .sle (places n) (broadcast S8x2048 thr))))
        (cmpi .eq (rows n vb) (broadcast S8x2048 0#32)))
      (broadcast S8x2048 (Scalar.ofBits .f32 0x3F800000#32 : F .f32))
      (broadcast S8x2048 (Scalar.ofBits .f32 0x00000000#32 : F .f32)))

/-- The residual of eight rows. -/
def resid (od noise w1 : FVec F S128x2048 .f32) (sa sb : F .f32) (n : Fin 16) : FVec F S8x2048 .f32 :=
  subf (rows n noise)
    (mulf (addf (mulf (broadcast S8x2048 sa) (rows n od)) (mulf (broadcast S8x2048 sb) (rows n noise))) (rows n w1))

/-- Sixteen blocks added in turn, from zero. -/
def sum16 (f : Fin 16 → FVec F S8x2048 .f32) : FVec F S8x2048 .f32 :=
  addf (addf (addf (addf (addf (addf (addf (addf (addf (addf (addf (addf (addf (addf (addf (addf
    (broadcast S8x2048 (Scalar.ofBits .f32 0x00000000#32 : F .f32)) (f 0)) (f 1)) (f 2)) (f 3)) (f 4)) (f 5)) (f 6)) (f 7)) (f 8)) (f 9))
    (f 10)) (f 11)) (f 12)) (f 13)) (f 14)) (f 15)

/-- The sum of all elements of a block of eight rows. -/
def total (x : FVec F S8x2048 .f32) : F .f32 :=
  extractAt ![0, 0, 0]
    (shapeCast S1x1x1
      (multiReduction .add [1, 2] S1 (shapeCast S1x8x2048 x shapeCasts_S8x2048_S1x8x2048) 0x00000000#32 reduces_S1x8x2048_S1 (.inl rfl) rfl)
      shapeCasts_S1_S1x1x1) inpos_S1x1x1_p0_0_0

/-- What a grid point adds: the loss of its batch entry over the number of entries. -/
def lossOf (om od noise w1 : FVec F S128x2048 .f32) (vb : IVec S128x2048 32) (v thr : BitVec 32) (sa sb : F .f32) : F .f32 :=
  Scalar.mulf
    (Scalar.divf
      (total (sum16 fun n => mulf (mulf (evald om vb v thr n) (resid od noise w1 sa sb n)) (resid od noise w1 sa sb n)))
      (Scalar.addf (total (sum16 fun n => evald om vb v thr n)) (Scalar.ofBits .f32 0x358637BD#32)))
    (Scalar.ofBits .f32 0x3C800000#32)

/-! ## One grid point -/

/-- The number to mask, rounded: `num_obs * ratio` to the nearest integer, ties to even. -/
def kkOf (v19 : Vec F S1x2048x128 .f32) (ratio : F .f32) : F .f32 :=
  k0_pay17 (k0_pay14 v19 ratio) (k0_pay15 v19 ratio) (k0_pay16 v19 ratio)

/-- The same, at least one. -/
def kfOf (v19 : Vec F S1x2048x128 .f32) (ratio : F .f32) : F .f32 := Scalar.maximumf (kkOf v19 ratio) (Scalar.ofBits .f32 0x3F800000#32)

/-- How many of the words equal to the threshold are taken. -/
def restOf (kf : F .f32) (st : St F) : F .f32 := Scalar.subf kf st.2.2.2

/-- The bit saying that some, not all, of the words equal to the threshold are taken. -/
def splits (kk kf : F .f32) (st : St F) : BitVec 1 :=
  Scalar.andi (Scalar.andi (Scalar.cmpi .sgt st.1 0#32) (Scalar.cmpf .olt (restOf kf st) (Scalar.subf st.2.2.1 st.2.2.2)))
    (Scalar.cmpf .ogt kk (Scalar.ofBits .f32 0x00000000#32))

/-- The last position whose word, equal to the threshold, is taken. -/
def thrOf (kk kf : F .f32) (vb : IVec S128x2048 32) (st : St F) : BitVec 32 :=
  if Scalar.cmpi .ne (Scalar.extui (splits kk kf st) : BitVec 32) 0#32 = 1#1 then tie (restOf kf st) vb st.1
  else Scalar.select (Scalar.andi (Scalar.cmpi .sgt st.1 0#32) (Scalar.cmpf .ogt kk (Scalar.ofBits .f32 0x00000000#32)))
    262143#32 4294967295#32

/-- The threshold word: the search's, or one above every word where nothing is masked. -/
def cutOf (kk : F .f32) (st : St F) : BitVec 32 :=
  Scalar.select (Scalar.cmpf .ogt kk (Scalar.ofBits .f32 0x00000000#32)) st.1 2130706432#32

/-- The accumulator after a point's term. -/
def stored (x y : F .f32) : F .f32 := Scalar.addf x y

/-- What a grid point adds, from the blocks it reads. -/
def termOf (v0 v3 : Vec F S1x2048x128 .f32) (v6 v8 : Vec F S1x128x2048 .f32) (v10 : Vec F S128x2048 .f32) (ratio sa sb : F .f32) (st : St F) : F .f32 :=
  lossOf (k0_pay6 v0) (k0_pay7 v3) (k0_pay8 v8) v10 (words v0 v6) (cutOf (kkOf v0 ratio) st)
    (thrOf (kkOf v0 ratio) (kfOf v0 ratio) (words v0 v6) st) sa sb

end Cert.Csdi
-- ==== Proof.Run.While.lean ====
/-
  The value search's loop: its printed body is one step and a call of itself, its interval shrinks, and so it
  returns the exit of the pure search.
-/
module

public import proofs.«01_k».proof.Proof.Run.Model
public import proofs.«01_k».proof.Proof.Gen.KernelIdeal.Launch
public import Idealize.ShloMosaic.Lib.Pipeline.FrameBody
public import Idealize.ShloMosaic.Lib.Tactic
public import Idealize.ShloMosaic.Lib.Exec
public import Idealize.ShloMosaic.Lib.WordCmp

@[expose] public section

set_option maxRecDepth 16384

noncomputable section

namespace Cert.Csdi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The interval shrinks -/

/-- The ends are words of values in [0, 1]. -/
def Ends (st : St F) : Prop := st.1.toNat ≤ 1065353216 ∧ st.2.1.toNat ≤ 1065353216

/-- The interval's length. -/
def len (st : St F) : ℕ := st.2.1.toNat - st.1.toNat

theorem toInt_small {x : BitVec 32} (h : x.toNat ≤ 1073741824) : x.toInt = (x.toNat : ℤ) :=
  WordCmp.toInt_eq_toNat_of_lt_half (show x.toNat < 2147483648 by omega)

/-- The search goes on exactly while the interval is longer than one. -/
theorem goesOn_iff {st : St F} (h : Ends st) : goesOn st ↔ 1 < (st.2.1.toNat : ℤ) - st.1.toNat := by
  obtain ⟨h1, h2⟩ := h
  unfold goesOn Scalar.cmpi Scalar.subi
  rw [WordCmp.cmpi_sgt_eq]
  have e : (IntOp.subi st.2.1 st.1).toInt = (st.2.1.toNat : ℤ) - st.1.toNat := by
    unfold IntOp.subi
    rw [BitVec.toInt_sub, toInt_small (by omega), toInt_small (by omega)]
    apply Int.bmod_eq_of_le <;> omega
  rw [e]
  have e1 : (1#32 : BitVec 32).toInt = 1 := by decide
  rw [e1]
  by_cases hc : (1 : ℤ) < (st.2.1.toNat : ℤ) - st.1.toNat <;> simp [hc]

/-- A clipped word lies strictly inside the interval. -/
theorem clip_bounds {lo hi : BitVec 32} (x : BitVec 32) (hlo : lo.toNat ≤ 1065353216) (hhi : hi.toNat ≤ 1065353216)
    (h : 1 < (hi.toNat : ℤ) - lo.toNat) : lo.toNat + 1 ≤ (clip lo hi x).toNat ∧ (clip lo hi x).toNat + 1 ≤ hi.toNat := by
  have ea : (lo + 1#32).toNat = lo.toNat + 1 := by
    rw [BitVec.toNat_add]; simp only [BitVec.toNat_ofNat]; omega
  have es : (hi - 1#32).toNat = hi.toNat - 1 := by
    rw [BitVec.toNat_sub]; simp only [BitVec.toNat_ofNat]; omega
  unfold clip Scalar.minsi Scalar.maxsi Scalar.subi Scalar.addi IntOp.minsi IntOp.maxsi IntOp.subi IntOp.addi
  have ia := toInt_small (x := lo + 1#32) (by omega)
  have is := toInt_small (x := hi - 1#32) (by omega)
  simp only [BitVec.slt_iff_toInt_lt]
  have ix := BitVec.toInt_eq_toNat_cond x
  have hx := x.isLt
  split <;> split at * <;> (try split at *) <;> omega

/-- A step keeps the ends and shortens the interval. -/
theorem step_shrinks {kf : F .f32} {vb : IVec S128x2048 32} {st : St F} (h : Ends st) (hg : goesOn st) :
    Ends (step kf vb st) ∧ len (step kf vb st) < len st := by
  have hl := (goesOn_iff h).mp hg
  obtain ⟨h1, h2⟩ := h
  have b1 := clip_bounds (Scalar.minsi (guess kf st) (middle st.1 st.2.1)) h1 h2 hl
  have b2 := clip_bounds (Scalar.maxsi (guess kf st) (middle st.1 st.2.1)) h1 h2 hl
  unfold step Ends len probe1 probe2
  simp only [Scalar.select]
  split <;> (try split) <;> omega

/-- The state at a stop is kept. -/
theorem iter_stop (kf : F .f32) (vb : IVec S128x2048 32) (n : ℕ) {st : St F} (h : ¬ goesOn st) : iter kf vb n st = st := by
  cases n with
  | zero => rfl
  | succ n => rw [iter, if_neg h]

/-- A short interval is a stop. -/
theorem not_goesOn {st : St F} (h : Ends st) (hl : len st = 0) : ¬ goesOn st := by
  rw [goesOn_iff h]; unfold len at hl; omega

/-! ## The printed loop -/

/-- The naturals, for the steps still to go. -/
abbrev 𝒱₀ : Variants := ⟨ℕ, (· < ·), Nat.lt_wfRel.wf⟩

/-- The interpolated word's bit search is its fold. -/
theorem guess_for (i : grid0.Coords) (kf : F .f32) (vb : IVec S128x2048 32) (lo hi : BitVec 32) (clo chi : F .f32) :
    Scf.Loop.for k0_t2_loop k0_t2_ok 0#32 (k0_t2_body i kf vb lo hi clo chi)
      = Prog.ret (Scf.fold (fun (k : Fin k0_t2_loop.trips) (acc : BitVec 32) =>
          Scalar.select (Scalar.cmpf .ole (k0_pay90 (F := F) k acc) (k0_pay89 kf lo hi clo chi))
            (Scalar.ori acc (Scalar.shrsi 536870912#32 (Scf.iv 0#32 1#32 k))) acc) 0#32) :=
  Scf.for_pure _ _ _ _ _ _ _ fun _ _ => rfl

/-- The loop's printed body: a step and the call, or the carried values. -/
theorem while_eq (i : grid0.Coords) (kf : F .f32) (vb : IVec S128x2048 32) (st : St F) :
    cc0_while1 i kf vb st.1 st.2.1 st.2.2.1 st.2.2.2
      = if goesOn st then
          Prog.op (.call (1 : (Λ₀ F).Label)
            ⟨i, kf, vb, (step kf vb st).1, (step kf vb st).2.1, (step kf vb st).2.2.1, (step kf vb st).2.2.2⟩) .ret
        else Prog.ret st := by
  rw [cc0_while1_eq_skeleton]
  unfold cc0_while1_skel
  rw [k0_part13_eq_skeleton]
  unfold k0_part13_skel
  simp only [guess_for]
  rfl

/-- Entered with at most `n` steps to go, the loop's label returns the search's exit. -/
theorem while_wp (c : Dev nD) (E : Set ℕ) (i : grid0.Coords) (kf : F .f32) (vb : IVec S128x2048 32) :
    ∀ n (st : St F), Ends st → len st ≤ n → ∀ K, (pure (iter kf vb n st) : sWPT 𝕄 (St F)) K
      ⊢ wp frame (wpE (defs₀ (F := F)) 𝒱₀ (c : Thread nD τ) (some n)) E
          (defs₀ (F := F) .tc 1 ⟨i, kf, vb, st.1, st.2.1, st.2.2.1, st.2.2.2⟩) K := by
  intro n
  induction n with
  | zero =>
    intro st he hl K
    show K st ⊢ wp frame (wpE (defs₀ (F := F)) 𝒱₀ (c : Thread nD τ) (some 0)) E
      (cc0_while1 i kf vb st.1 st.2.1 st.2.2.1 st.2.2.2) K
    rw [while_eq, if_neg (not_goesOn he (Nat.le_zero.mp hl))]
    iintro Hk
    rw [wp_ret]; imodintro
    iexact Hk
  | succ n ih =>
    intro st he hl K
    show K (iter kf vb (n + 1) st) ⊢ wp frame (wpE (defs₀ (F := F)) 𝒱₀ (c : Thread nD τ) (some (n + 1))) E
      (cc0_while1 i kf vb st.1 st.2.1 st.2.2.1 st.2.2.2) K
    rw [while_eq, iter]
    by_cases hg : goesOn st
    · rw [if_pos hg, if_pos hg]
      have hs := step_shrinks (kf := kf) (vb := vb) he hg
      iintro Hk
      iapply (wp_call_spec 𝒱₀ (c : Thread nD τ) (some (n + 1)) E (pure (iter kf vb n (step kf vb st)) : sWPT 𝕄 (St F)) n
        (fun u hu => by cases hu; exact Nat.lt_succ_self n) (ih (step kf vb st) hs.1 (by omega)))
      show iprop(_) ⊢ wp frame (wpE (defs₀ (F := F)) 𝒱₀ (c : Thread nD τ) (some (n + 1))) E
        (Prog.ret (iter kf vb n (step kf vb st))) K
      rw [wp_ret]; iintro Hk; imodintro
      iexact Hk
    · rw [if_neg hg, if_neg hg]
      iintro Hk
      rw [wp_ret]; imodintro
      iexact Hk

/-- The start's ends and length. -/
theorem st0_ends : Ends (st0 : St F) ∧ len (st0 : St F) ≤ 1065353216 := by
  unfold Ends len st0
  refine ⟨⟨?_, ?_⟩, ?_⟩
  · show (0#32 : BitVec 32).toNat ≤ _; rw [BitVec.toNat_ofNat]; omega
  · show (1065353216#32 : BitVec 32).toNat ≤ _; rw [BitVec.toNat_ofNat]
  · show (1065353216#32 : BitVec 32).toNat - (0#32 : BitVec 32).toNat ≤ _; rw [BitVec.toNat_ofNat]; omega

/-- The search from its start, called by the kernel's body. -/
theorem found_wp (c : Dev nD) (E : Set ℕ) (i : grid0.Coords) (s0 : St F) (n : ℕ) (h0 : st0 = s0) (hn : n = steps)
    (kf : F .f32) (vb : IVec S128x2048 32) (K : St F → sProp 𝕄) :
    (pure (found kf vb) : sWPT 𝕄 (St F)) K
      ⊢ wp frame (wpE (defs₀ (F := F)) 𝒱₀ (c : Thread nD τ) (some n)) E
          (defs₀ (F := F) .tc 1 ⟨i, kf, vb, s0.1, s0.2.1, s0.2.2.1, s0.2.2.2⟩) K := by
  have hl : len (st0 : St F) ≤ steps := by unfold steps; exact st0_ends.2
  have he := (st0_ends (F := F)).1
  unfold found
  rw [h0] at he hl ⊢
  rw [← hn] at hl ⊢
  exact while_wp c E i kf vb n s0 he hl K

/-- The call of the search at the head of a program, which goes on with what the search finds. -/
theorem call_found (c : Dev nD) (E : Set ℕ) (i : grid0.Coords) (s0 : St F) (n : ℕ) (h0 : st0 = s0) (hn : n = steps)
    (kf : F .f32) (vb : IVec S128x2048 32) {α : Type} (k : St F → Prog (TpuEff nD τ sig (Elt F) (Λ₀ F) .tc) α)
    (Q : α → sProp 𝕄) :
    wp frame (wpE (defs₀ (F := F)) 𝒱₀ (c : Thread nD τ) none) E (k (found kf vb)) Q
      ⊢ wp frame (wpE (defs₀ (F := F)) 𝒱₀ (c : Thread nD τ) none) E
          (.op (.call (1 : (Λ₀ F).Label) ⟨i, kf, vb, s0.1, s0.2.1, s0.2.2.1, s0.2.2.2⟩) k) Q := by
  iintro H
  iapply (wp_call_spec 𝒱₀ (c : Thread nD τ) none E (pure (found kf vb) : sWPT 𝕄 (St F)) n (fun u hu => nomatch hu)
    (fun K => found_wp (F := F) c E i s0 n h0 hn kf vb K))
  iexact H

end Cert.Csdi
-- ==== Proof.Run.Body.lean ====
/-
  The kernel's body as its loads, the search's call, its loads and its store over the pure content of Model.lean.
-/
module

public import proofs.«01_k».proof.Proof.Run.While

@[expose] public section

set_option maxRecDepth 65536

noncomputable section

namespace Cert.Csdi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Parts

variable (i : grid0.Coords)
  (arg1 : Memref sig .tc .smem S1x1x1 .f32) (harg1 : arg1.IsWhole)
  (arg2 : Memref sig .tc .smem S1x1x1 .f32) (harg2 : arg2.IsWhole)
  (arg3 : Memref sig .tc .smem S1x1x1 .f32) (harg3 : arg3.IsWhole)
  (arg4 : Memref sig .tc .vmem S1x2048x128 .f32) (harg4 : arg4.IsWhole)
  (arg5 : Memref sig .tc .vmem S1x2048x128 .f32) (harg5 : arg5.IsWhole)
  (arg6 : Memref sig .tc .vmem S1x128x2048 .f32) (harg6 : arg6.IsWhole)
  (arg7 : Memref sig .tc .vmem S1x128x2048 .f32) (harg7 : arg7.IsWhole)
  (arg8 : Memref sig .tc .vmem S128x2048 .f32) (harg8 : arg8.IsWhole)
  (arg9 : Memref sig .tc .smem S1x1 .f32) (harg9 : arg9.IsWhole)

include i in
/-- The words' bit search is its fold. -/
theorem words_for (v0 : Vec F S1x2048x128 .f32) (v6 : Vec F S1x128x2048 .f32) :
    Scf.Loop.for k0_t1_loop k0_t1_ok k0_pay10 (k0_t1_body i arg1 harg1 arg2 harg2 arg3 harg3 arg4 harg4 arg5 harg5 arg6 harg6 arg7 harg7 arg8 harg8 arg9 harg9 v0 v6)
      = Prog.ret (Scf.fold (fun (k : Fin k0_t1_loop.trips) acc => k0_pay11 v0 v6 k acc) k0_pay10) :=
  Scf.for_pure _ _ _ _ _ _ _ fun _ _ => rfl

include i in
/-- The tie search's loop is its fold. -/
theorem tie_for (v18 : IVec S128x2048 32) (v27 v28 v29 : F .f32) (v : BitVec 32) (cgt : F .f32) :
    Scf.Loop.for k0_t3_loop k0_t3_ok (0#32, 262143#32) (k0_t3_body i arg1 harg1 arg2 harg2 arg3 harg3 arg4 harg4 arg5 harg5 arg6 harg6 arg7 harg7 arg8 harg8 arg9 harg9 v18 v27 v28 v29 v cgt)
      = Prog.ret (Scf.fold (fun (_ : Fin k0_t3_loop.trips) s => tieStep (k0_pay20 v27 v28 v29 cgt) v18 v s) (0#32, 262143#32)) :=
  Scf.for_pure _ _ _ _ _ _ _ fun _ _ => rfl

/-- The second part: the search's call, the tie position, and the two scalars' loads. -/
theorem part2_eq (v18 : IVec S128x2048 32) (v19 : Vec F S1x2048x128 .f32) (ratio : F .f32) :
    k0_part2 i arg1 harg1 arg2 harg2 arg3 harg3 arg4 harg4 arg5 harg5 arg6 harg6 arg7 harg7 arg8 harg8 arg9 harg9 v18 (k0_pay14 v19 ratio) (k0_pay15 v19 ratio) (k0_pay16 v19 ratio)
      = (do
          let st : St F ← Prog.lift (.call (1 : (Λ₀ F).Label) ⟨i, kfOf v19 ratio, v18, (st0 : St F).1, (st0 : St F).2.1, (st0 : St F).2.2.1, (st0 : St F).2.2.2⟩)
          let v53 : Elt F .f32 ← smemLoad arg1 (Rect.unit (s := S1x1x1) ![0, 0, 0] S1x1x1.size inb_S1x1x1_S1x1x1_0_0_0) numel1_S1x1x1 rfl
          let v54 : Elt F .f32 ← smemLoad arg2 (Rect.unit (s := S1x1x1) ![0, 0, 0] S1x1x1.size inb_S1x1x1_S1x1x1_0_0_0) numel1_S1x1x1 rfl
          pure ⟨thrOf (kkOf v19 ratio) (kfOf v19 ratio) v18 st, cutOf (kkOf v19 ratio) st, v53, v54,
            iota .tc S8x2048 32 [1] iota_S8x2048_d1_w32, k0_pay22, k0_pay23 (F := F), k0_pay24 (F := F), k0_pay25 v18, k0_pay26⟩) := by
  rw [k0_part2_eq_skeleton]
  unfold k0_part2_skel
  simp only [tie_for]
  refine congrArg _ (funext fun st => ?_)
  obtain ⟨a, b, x, y⟩ := st
  dsimp only
  split
  · rename_i h
    have e : thrOf (kkOf v19 ratio) (kfOf v19 ratio) v18 (a, b, x, y) = tie (restOf (kfOf v19 ratio) (a, b, x, y)) v18 a := if_pos h
    rw [e]; rfl
  · rename_i h
    have e : thrOf (kkOf v19 ratio) (kfOf v19 ratio) v18 (a, b, x, y)
        = Scalar.select (Scalar.andi (Scalar.cmpi .sgt a 0#32) (Scalar.cmpf .ogt (kkOf v19 ratio) (Scalar.ofBits .f32 0x00000000#32)))
          262143#32 4294967295#32 := if_neg h
    rw [e]; rfl

/-- The kernel's body, as its loads, the search's call and its store. -/
theorem body_eq :
    cc0__loss_kernel i arg1 harg1 arg2 harg2 arg3 harg3 arg4 harg4 arg5 harg5 arg6 harg6 arg7 harg7 arg8 harg8 arg9 harg9
      = (do
          let v0 : Vec F S1x2048x128 .f32 ← Prog.lift (.load arg5 (Rect.unit (s := S1x2048x128) ![0, 0, 0] S1x2048x128.size inb_S1x2048x128_S1x2048x128_0_0_0).toLoadRect (View.loadsAt_vmem h_S1x2048x128))
          let v3 : Vec F S1x2048x128 .f32 ← Prog.lift (.load arg4 (Rect.unit (s := S1x2048x128) ![0, 0, 0] S1x2048x128.size inb_S1x2048x128_S1x2048x128_0_0_0).toLoadRect (View.loadsAt_vmem h_S1x2048x128))
          let v6 : Vec F S1x128x2048 .f32 ← Prog.lift (.load arg7 (Rect.unit (s := S1x128x2048) ![0, 0, 0] S1x128x2048.size inb_S1x128x2048_S1x128x2048_0_0_0).toLoadRect (View.loadsAt_vmem h_S1x128x2048))
          let v8 : Vec F S1x128x2048 .f32 ← Prog.lift (.load arg6 (Rect.unit (s := S1x128x2048) ![0, 0, 0] S1x128x2048.size inb_S1x128x2048_S1x128x2048_0_0_0).toLoadRect (View.loadsAt_vmem h_S1x128x2048))
          let v10 : Vec F S128x2048 .f32 ← Prog.lift (.load arg8 (Rect.unit (s := S128x2048) ![0, 0] S128x2048.size inb_S128x2048_S128x2048_0_0).toLoadRect (View.loadsAt_vmem h_S128x2048))
          let v19 : Vec F S1x2048x128 .f32 ← Prog.lift (.load arg5 (Rect.unit (s := S1x2048x128) ![0, 0, 0] S1x2048x128.size inb_S1x2048x128_S1x2048x128_0_0_0).toLoadRect (View.loadsAt_vmem h_S1x2048x128))
          let v25 : Elt F .f32 ← smemLoad arg3 (Rect.unit (s := S1x1x1) ![0, 0, 0] S1x1x1.size inb_S1x1x1_S1x1x1_0_0_0) numel1_S1x1x1 rfl
          let st : St F ← Prog.lift (.call (1 : (Λ₀ F).Label) ⟨i, kfOf v19 v25, words v0 v6, (st0 : St F).1, (st0 : St F).2.1, (st0 : St F).2.2.1, (st0 : St F).2.2.2⟩)
          let v53 : Elt F .f32 ← smemLoad arg1 (Rect.unit (s := S1x1x1) ![0, 0, 0] S1x1x1.size inb_S1x1x1_S1x1x1_0_0_0) numel1_S1x1x1 rfl
          let v54 : Elt F .f32 ← smemLoad arg2 (Rect.unit (s := S1x1x1) ![0, 0, 0] S1x1x1.size inb_S1x1x1_S1x1x1_0_0_0) numel1_S1x1x1 rfl
          if Scalar.cmpi .ne (Scalar.extui (Scalar.cmpi .eq (BitVec.ofNat 32 (i 0).val) 0#32) : BitVec 32) 0#32 = 1#1 then do
            let _ : Elt F .f32 ← smemLoad arg9 (Rect.unit (s := S1x1) ![0, 0] S1x1.size inb_S1x1_S1x1_0_0) numel1_S1x1 rfl
            Prog.lift (.store arg9 (Rect.unit (s := S1x1) ![0, 0] S1x1.size inb_S1x1_S1x1_0_0) (fun _ => (Scalar.ofBits .f32 0x00000000#32 : F .f32)) Finset.univ (View.stores_smem_one rfl numel1_S1x1) (.inl rfl))
            pure ⟨⟩
          else do
            pure ⟨⟩
          let v618 : Elt F .f32 ← smemLoad arg9 (Rect.unit (s := S1x1) ![0, 0] S1x1.size inb_S1x1_S1x1_0_0) numel1_S1x1 rfl
          let _ : Elt F .f32 ← smemLoad arg9 (Rect.unit (s := S1x1) ![0, 0] S1x1.size inb_S1x1_S1x1_0_0) numel1_S1x1 rfl
          Prog.lift (.store arg9 (Rect.unit (s := S1x1) ![0, 0] S1x1.size inb_S1x1_S1x1_0_0) (fun _ => stored v618 (lossOf (k0_pay6 v0) (k0_pay7 v3) (k0_pay8 v8) v10 (words v0 v6) (cutOf (kkOf v19 v25) st)
            (thrOf (kkOf v19 v25) (kfOf v19 v25) (words v0 v6) st) v53 v54)) Finset.univ (View.stores_smem_one rfl numel1_S1x1) (.inl rfl))
          pure ⟨⟩) := by
  rw [cc0__loss_kernel_eq_skeleton]
  unfold cc0__loss_kernel_skel
  simp only [k0_part1_eq_skeleton]
  unfold k0_part1_skel
  simp only [words_for, bind_assoc, pure_bind, Prog.bind_ret]
  simp only [part2_eq, bind_assoc, pure_bind, Prog.bind_ret]
  simp only [k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton]
  rfl

end Parts

end Cert.Csdi
-- ==== Proof.Run.Triple.lean ====
/-
  The body's triple: from its inputs' blocks and the accumulator, to the accumulator with the point's term added.
-/
module

public import proofs.«01_k».proof.Proof.Run.Body
public import Idealize.ShloMosaic.Lib.Ring
public import Idealize.ShloMosaic.Lib.WholeRead
public import Idealize.ShloMosaic.Lib.ValueIdx
public import Idealize.ShloMosaic.Lib.WritesUnit

@[expose] public section

set_option maxRecDepth 65536

noncomputable section

namespace Cert.Csdi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first grid point's condition. -/
abbrev first (i : grid0.Coords) : Prop :=
  Scalar.cmpi .ne (Scalar.extui (Scalar.cmpi .eq (BitVec.ofNat 32 (i 0).val) 0#32) : BitVec 32) 0#32 = 1#1

omit [FloatOps F] in
/-- A load of a whole block of three axes reads the block. -/
theorem whole3 {sp : Space} {a b d : ℕ} {e : EltTy} (m : Memref sig .tc sp ⟨3, ![a, b, d]⟩ e) (h : m.IsWhole)
    (X : (⟨3, ![a, b, d]⟩ : Shape).Idx → Elt F e) (inb : ∀ k : Fin 3, (![0, 0, 0] : Fin 3 → ℕ) k + (⟨3, ![a, b, d]⟩ : Shape).size k ≤ (⟨3, ![a, b, d]⟩ : Shape).size k) :
    m.view.readAt (Elt F) (Rect.unit (s := ⟨3, ![a, b, d]⟩) ![0, 0, 0] (⟨3, ![a, b, d]⟩ : Shape).size inb).toLoadRect (h.unread X) = X := by
  funext x
  refine (h.readAt_unread X _ x).trans (congrArg X (funext fun k => Fin.ext ?_))
  fin_cases k <;> simp [Rect.unit, Rect.toLoadRect, LoadRect.idx]

omit [FloatOps F] in
/-- The same at two axes. -/
theorem whole2 {sp : Space} {a b : ℕ} {e : EltTy} (m : Memref sig .tc sp ⟨2, ![a, b]⟩ e) (h : m.IsWhole)
    (X : (⟨2, ![a, b]⟩ : Shape).Idx → Elt F e) (inb : ∀ k : Fin 2, (![0, 0] : Fin 2 → ℕ) k + (⟨2, ![a, b]⟩ : Shape).size k ≤ (⟨2, ![a, b]⟩ : Shape).size k) :
    m.view.readAt (Elt F) (Rect.unit (s := ⟨2, ![a, b]⟩) ![0, 0] (⟨2, ![a, b]⟩ : Shape).size inb).toLoadRect (h.unread X) = X := by
  funext x
  refine (h.readAt_unread X _ x).trans (congrArg X (funext fun k => Fin.ext ?_))
  fin_cases k <;> simp [Rect.unit, Rect.toLoadRect, LoadRect.idx]

omit [FloatOps F] in
/-- A scalar load of a one-element block of three axes reads its element. -/
theorem one3 {sp : Space} {e : EltTy} (m : Memref sig .tc sp S1x1x1 e) (h : m.IsWhole) (X : S1x1x1.Idx → Elt F e)
    (B : LoadRect S1x1x1) (x : B.shape.Idx) : m.view.readAt (Elt F) B (h.unread X) x = X (ValueIdx.ix3 0 0 0) :=
  (h.readAt_unread X _ x).trans (congrArg X (funext fun k => by fin_cases k <;> exact Subsingleton.elim (α := Fin 1) _ _))

omit [FloatOps F] in
/-- The same at two axes. -/
theorem one2 {sp : Space} {e : EltTy} (m : Memref sig .tc sp S1x1 e) (h : m.IsWhole) (X : S1x1.Idx → Elt F e)
    (B : LoadRect S1x1) (x : B.shape.Idx) : m.view.readAt (Elt F) B (h.unread X) x = X (ValueIdx.ix2 0 0) :=
  (h.readAt_unread X _ x).trans (congrArg X (funext fun k => by fin_cases k <;> exact Subsingleton.elim (α := Fin 1) _ _))

section Triple

variable (c : Dev nD) (i : grid0.Coords)
  (arg1 : Memref sig .tc .smem S1x1x1 .f32) (harg1 : arg1.IsWhole)
  (arg2 : Memref sig .tc .smem S1x1x1 .f32) (harg2 : arg2.IsWhole)
  (arg3 : Memref sig .tc .smem S1x1x1 .f32) (harg3 : arg3.IsWhole)
  (arg4 : Memref sig .tc .vmem S1x2048x128 .f32) (harg4 : arg4.IsWhole)
  (arg5 : Memref sig .tc .vmem S1x2048x128 .f32) (harg5 : arg5.IsWhole)
  (arg6 : Memref sig .tc .vmem S1x128x2048 .f32) (harg6 : arg6.IsWhole)
  (arg7 : Memref sig .tc .vmem S1x128x2048 .f32) (harg7 : arg7.IsWhole)
  (arg8 : Memref sig .tc .vmem S128x2048 .f32) (harg8 : arg8.IsWhole)
  (arg9 : Memref sig .tc .smem S1x1 .f32) (harg9 : arg9.IsWhole)

omit [FloatOps F] in
/-- Handing the nine blocks back: the inputs' as they were, the accumulator's at what was left in it. -/
theorem give_back (x0 : S1x1x1.Idx → Elt F .f32) (x1 : S1x1x1.Idx → Elt F .f32) (x2 : S1x1x1.Idx → Elt F .f32) (x3 : S1x2048x128.Idx → Elt F .f32) (x4 : S1x2048x128.Idx → Elt F .f32) (x5 : S1x128x2048.Idx → Elt F .f32) (x6 : S1x128x2048.Idx → Elt F .f32) (x7 : S128x2048.Idx → Elt F .f32) (x8 : S1x1.Idx → Elt F .f32) (f : arg9.view.ty.shape.Idx → Elt F arg9.view.ty.elt)
    (hf : arg9.view.read (Elt F) f = x8) (R : sProp 𝕄) :
    iprop((arg1.view.loc (c : Thread nD τ) ↦[arg1.view.set]{fullShare} harg1.unread x0)
      ∗ (arg2.view.loc (c : Thread nD τ) ↦[arg2.view.set]{fullShare} harg2.unread x1)
      ∗ (arg3.view.loc (c : Thread nD τ) ↦[arg3.view.set]{fullShare} harg3.unread x2)
      ∗ (arg4.view.loc (c : Thread nD τ) ↦[arg4.view.set]{fullShare} harg4.unread x3)
      ∗ (arg5.view.loc (c : Thread nD τ) ↦[arg5.view.set]{fullShare} harg5.unread x4)
      ∗ (arg6.view.loc (c : Thread nD τ) ↦[arg6.view.set]{fullShare} harg6.unread x5)
      ∗ (arg7.view.loc (c : Thread nD τ) ↦[arg7.view.set]{fullShare} harg7.unread x6)
      ∗ (arg8.view.loc (c : Thread nD τ) ↦[arg8.view.set]{fullShare} harg8.unread x7)
      ∗ (arg9.view.loc (c : Thread nD τ) ↦[arg9.view.set]{fullShare} f)
      ∗ ((owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8) -∗ R)) ⊢ R := by
  unfold owns
  iintro ⟨H0, H1, H2, H3, H4, H5, H6, H7, H8, Hk⟩
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  · ipureintro; exact hf
  iexact H8

set_option maxHeartbeats 1600000 in
/-- The first point's body: the accumulator is set to zero and the point's term added. -/
theorem triple_first (x0 : S1x1x1.Idx → Elt F .f32) (x1 : S1x1x1.Idx → Elt F .f32) (x2 : S1x1x1.Idx → Elt F .f32) (x3 : S1x2048x128.Idx → Elt F .f32) (x4 : S1x2048x128.Idx → Elt F .f32) (x5 : S1x128x2048.Idx → Elt F .f32) (x6 : S1x128x2048.Idx → Elt F .f32) (x7 : S128x2048.Idx → Elt F .f32) (x8 : S1x1.Idx → Elt F .f32) (hc : first i)
    (E : Set ℕ) (R : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ ((owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare (fun _ => stored (FloatOps.ofBits .f32 0#32) (termOf x4 x3 x6 x5 x7 (x2 (ValueIdx.ix3 0 0 0)) (x0 (ValueIdx.ix3 0 0 0)) (x1 (ValueIdx.ix3 0 0 0)) (found (kfOf x4 (x2 (ValueIdx.ix3 0 0 0))) (words x4 x6)))))
        -∗ R ⟨⟩))
      ⊢ wp frame (wpE (defs₀ (F := F)) 𝒱₀ (c : Thread nD τ) none) E (cc0__loss_kernel i arg1 harg1 arg2 harg2 arg3 harg3 arg4 harg4 arg5 harg5 arg6 harg6 arg7 harg7 arg8 harg8 arg9 harg9) R := by
  rw [body_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  have e4 : arg4.view.readAt (Elt F) (Rect.unit (s := S1x2048x128) ![0, 0, 0] S1x2048x128.size inb_S1x2048x128_S1x2048x128_0_0_0).toLoadRect (harg4.unread x3) = x3 := whole3 arg4 harg4 x3 inb_S1x2048x128_S1x2048x128_0_0_0
  have e5 : arg5.view.readAt (Elt F) (Rect.unit (s := S1x2048x128) ![0, 0, 0] S1x2048x128.size inb_S1x2048x128_S1x2048x128_0_0_0).toLoadRect (harg5.unread x4) = x4 := whole3 arg5 harg5 x4 inb_S1x2048x128_S1x2048x128_0_0_0
  have e6 : arg6.view.readAt (Elt F) (Rect.unit (s := S1x128x2048) ![0, 0, 0] S1x128x2048.size inb_S1x128x2048_S1x128x2048_0_0_0).toLoadRect (harg6.unread x5) = x5 := whole3 arg6 harg6 x5 inb_S1x128x2048_S1x128x2048_0_0_0
  have e7 : arg7.view.readAt (Elt F) (Rect.unit (s := S1x128x2048) ![0, 0, 0] S1x128x2048.size inb_S1x128x2048_S1x128x2048_0_0_0).toLoadRect (harg7.unread x6) = x6 := whole3 arg7 harg7 x6 inb_S1x128x2048_S1x128x2048_0_0_0
  have e8 : arg8.view.readAt (Elt F) (Rect.unit (s := S128x2048) ![0, 0] S128x2048.size inb_S128x2048_S128x2048_0_0).toLoadRect (harg8.unread x7) = x7 := whole2 arg8 harg8 x7 inb_S128x2048_S128x2048_0_0
  sl_exec (disch := first | sl_exact hc)
  obtain ⟨n, hn⟩ : ∃ n, n = steps := ⟨_, rfl⟩
  generalize h0 : (st0 : St F) = s0
  iapply (call_found (F := F) c E i s0 n h0 hn (kfOf x4 (triple_first.sl.r c arg3 harg3 x2)) (words x4 x6))
  sl_exec (disch := first | sl_exact hc)
  sl_step
  have r0 : triple_first.sl.r c arg3 harg3 x2 = x2 (ValueIdx.ix3 0 0 0) := one3 arg3 harg3 x2 _ _
  have r1 : triple_first.sl.r_1 c arg1 harg1 x0 = x0 (ValueIdx.ix3 0 0 0) := one3 arg1 harg1 x0 _ _
  have r2 : triple_first.sl.r_2 c arg2 harg2 x1 = x1 (ValueIdx.ix3 0 0 0) := one3 arg2 harg2 x1 _ _
  have r3 : (triple_first.sl.r_4 : F .f32) = (FloatOps.ofBits .f32 0#32) := rfl
  have hend : arg9.view.read (Elt F) _ = (fun _ => stored (FloatOps.ofBits .f32 0#32) (termOf x4 x3 x6 x5 x7 (x2 (ValueIdx.ix3 0 0 0)) (x0 (ValueIdx.ix3 0 0 0)) (x1 (ValueIdx.ix3 0 0 0)) (found (kfOf x4 (x2 (ValueIdx.ix3 0 0 0))) (words x4 x6)))) := funext fun y => (View.read_writes_cons_unit_of_mem arg9.view (harg9.unread x8) inb_S1x1_S1x1_0_0
      (fun _ => stored (triple_first.sl.r_4 : F .f32) (lossOf (k0_pay6 x4) (k0_pay7 x3) (k0_pay8 x5) x7 (words x4 x6) (cutOf (kkOf x4 (triple_first.sl.r c arg3 harg3 x2)) (found (kfOf x4 (triple_first.sl.r c arg3 harg3 x2)) (words x4 x6)))
        (thrOf (kkOf x4 (triple_first.sl.r c arg3 harg3 x2)) (kfOf x4 (triple_first.sl.r c arg3 harg3 x2)) (words x4 x6) (found (kfOf x4 (triple_first.sl.r c arg3 harg3 x2)) (words x4 x6)))
        (triple_first.sl.r_1 c arg1 harg1 x0) (triple_first.sl.r_2 c arg2 harg2 x1))) [⟨Rect.unit ![0, 0] S1x1.size inb_S1x1_S1x1_0_0, fun _ => FloatOps.ofBits .f32 0#32⟩] y y rfl (fun a => by fin_cases a <;> exact (Nat.zero_add _).symm)).trans (by
      rw [r0, r1, r2, r3]; rfl)
  iapply (give_back c arg1 harg1 arg2 harg2 arg3 harg3 arg4 harg4 arg5 harg5 arg6 harg6 arg7 harg7 arg8 harg8 arg9 x0 x1 x2 x3 x4 x5 x6 x7 _ _ hend)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hk

set_option maxHeartbeats 1600000 in
/-- A later point's body: the point's term is added to the accumulator. -/
theorem triple_next (x0 : S1x1x1.Idx → Elt F .f32) (x1 : S1x1x1.Idx → Elt F .f32) (x2 : S1x1x1.Idx → Elt F .f32) (x3 : S1x2048x128.Idx → Elt F .f32) (x4 : S1x2048x128.Idx → Elt F .f32) (x5 : S1x128x2048.Idx → Elt F .f32) (x6 : S1x128x2048.Idx → Elt F .f32) (x7 : S128x2048.Idx → Elt F .f32) (x8 : S1x1.Idx → Elt F .f32) (hc : ¬ first i)
    (E : Set ℕ) (R : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ ((owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare (fun _ => stored (x8 (ValueIdx.ix2 0 0)) (termOf x4 x3 x6 x5 x7 (x2 (ValueIdx.ix3 0 0 0)) (x0 (ValueIdx.ix3 0 0 0)) (x1 (ValueIdx.ix3 0 0 0)) (found (kfOf x4 (x2 (ValueIdx.ix3 0 0 0))) (words x4 x6)))))
        -∗ R ⟨⟩))
      ⊢ wp frame (wpE (defs₀ (F := F)) 𝒱₀ (c : Thread nD τ) none) E (cc0__loss_kernel i arg1 harg1 arg2 harg2 arg3 harg3 arg4 harg4 arg5 harg5 arg6 harg6 arg7 harg7 arg8 harg8 arg9 harg9) R := by
  rw [body_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  have e4 : arg4.view.readAt (Elt F) (Rect.unit (s := S1x2048x128) ![0, 0, 0] S1x2048x128.size inb_S1x2048x128_S1x2048x128_0_0_0).toLoadRect (harg4.unread x3) = x3 := whole3 arg4 harg4 x3 inb_S1x2048x128_S1x2048x128_0_0_0
  have e5 : arg5.view.readAt (Elt F) (Rect.unit (s := S1x2048x128) ![0, 0, 0] S1x2048x128.size inb_S1x2048x128_S1x2048x128_0_0_0).toLoadRect (harg5.unread x4) = x4 := whole3 arg5 harg5 x4 inb_S1x2048x128_S1x2048x128_0_0_0
  have e6 : arg6.view.readAt (Elt F) (Rect.unit (s := S1x128x2048) ![0, 0, 0] S1x128x2048.size inb_S1x128x2048_S1x128x2048_0_0_0).toLoadRect (harg6.unread x5) = x5 := whole3 arg6 harg6 x5 inb_S1x128x2048_S1x128x2048_0_0_0
  have e7 : arg7.view.readAt (Elt F) (Rect.unit (s := S1x128x2048) ![0, 0, 0] S1x128x2048.size inb_S1x128x2048_S1x128x2048_0_0_0).toLoadRect (harg7.unread x6) = x6 := whole3 arg7 harg7 x6 inb_S1x128x2048_S1x128x2048_0_0_0
  have e8 : arg8.view.readAt (Elt F) (Rect.unit (s := S128x2048) ![0, 0] S128x2048.size inb_S128x2048_S128x2048_0_0).toLoadRect (harg8.unread x7) = x7 := whole2 arg8 harg8 x7 inb_S128x2048_S128x2048_0_0
  sl_exec (disch := first | sl_exact hc)
  obtain ⟨n, hn⟩ : ∃ n, n = steps := ⟨_, rfl⟩
  generalize h0 : (st0 : St F) = s0
  iapply (call_found (F := F) c E i s0 n h0 hn (kfOf x4 (triple_next.sl.r c arg3 harg3 x2)) (words x4 x6))
  sl_exec (disch := first | sl_exact hc)
  sl_step
  have r0 : triple_next.sl.r c arg3 harg3 x2 = x2 (ValueIdx.ix3 0 0 0) := one3 arg3 harg3 x2 _ _
  have r1 : triple_next.sl.r_1 c arg1 harg1 x0 = x0 (ValueIdx.ix3 0 0 0) := one3 arg1 harg1 x0 _ _
  have r2 : triple_next.sl.r_2 c arg2 harg2 x1 = x1 (ValueIdx.ix3 0 0 0) := one3 arg2 harg2 x1 _ _
  have r3 : (triple_next.sl.r_3 c arg9 harg9 x8) = (x8 (ValueIdx.ix2 0 0)) := one2 arg9 harg9 x8 _ _
  have hend : arg9.view.read (Elt F) _ = (fun _ => stored (x8 (ValueIdx.ix2 0 0)) (termOf x4 x3 x6 x5 x7 (x2 (ValueIdx.ix3 0 0 0)) (x0 (ValueIdx.ix3 0 0 0)) (x1 (ValueIdx.ix3 0 0 0)) (found (kfOf x4 (x2 (ValueIdx.ix3 0 0 0))) (words x4 x6)))) := funext fun y => (View.read_writes_cons_unit_of_mem arg9.view (harg9.unread x8) inb_S1x1_S1x1_0_0
      (fun _ => stored (triple_next.sl.r_3 c arg9 harg9 x8) (lossOf (k0_pay6 x4) (k0_pay7 x3) (k0_pay8 x5) x7 (words x4 x6) (cutOf (kkOf x4 (triple_next.sl.r c arg3 harg3 x2)) (found (kfOf x4 (triple_next.sl.r c arg3 harg3 x2)) (words x4 x6)))
        (thrOf (kkOf x4 (triple_next.sl.r c arg3 harg3 x2)) (kfOf x4 (triple_next.sl.r c arg3 harg3 x2)) (words x4 x6) (found (kfOf x4 (triple_next.sl.r c arg3 harg3 x2)) (words x4 x6)))
        (triple_next.sl.r_1 c arg1 harg1 x0) (triple_next.sl.r_2 c arg2 harg2 x1))) [] y y rfl (fun a => by fin_cases a <;> exact (Nat.zero_add _).symm)).trans (by
      rw [r0, r1, r2, r3]; rfl)
  iapply (give_back c arg1 harg1 arg2 harg2 arg3 harg3 arg4 harg4 arg5 harg5 arg6 harg6 arg7 harg7 arg8 harg8 arg9 x0 x1 x2 x3 x4 x5 x6 x7 _ _ hend)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hk

end Triple

end Cert.Csdi
-- ==== Proof.Run.Kit.lean ====
/-
  What the launch hands the kernel's pipeline: the buffers after the host's part, each window's block, and which
  point is the first.
-/
module

public import proofs.«01_k».proof.Proof.Run.Triple
public import proofs.«01_k».proof.Proof.Gen.KernelIdeal.Points
public import Idealize.ShloMosaic.Lib.Pipeline.FrameBody
public import Idealize.ShloMosaic.Lib.Claim
public import Idealize.ShloMosaic.Lib.WordCmp

@[expose] public section

set_option maxRecDepth 16384

noncomputable section

namespace Cert.Csdi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the region is entered with: the launch's after the host's operations. -/
abbrev entry (c : Dev nD) (b : Ref sig .tc) : Buf (Elt F) ((c : Thread nD τ).loc b) :=
  StableHlo.after hostOps0 (fun b => m (c, b)) b

theorem ops_fresh : (hostOps0 : List (HloOp τ sig (Elt F))).Forall fun op => op.fresh = ∅ := by
  simp only [List.Forall]; repeat' constructor

set_option maxHeartbeats 800000 in
/-- @main runs the host's operations and then the region. -/
theorem main_runs (𝒱 : Variants) : Pipeline.HMain (Ix := Unit) (Name := ℕ) (U := UR sig nD τ) (Lvl := ℕ) cfgs 0 defs₀ 𝒱 m
    (main (F := F)) (entry m) :=
  Pipeline.hmain_prefix cfgs 0 defs₀ 𝒱 m main hostOps0 hostOps0_sub ops_fresh main_chain

/-- The arguments. -/
abbrev IsArg (b : Ref sig .tc) : Prop := b = main_arg0 ∨ b = main_arg1 ∨ b = main_arg2 ∨ b = main_arg3 ∨ b = main_arg4 ∨ b = main_arg5 ∨ b = main_arg6 ∨ b = main_arg7 ∨ b = main_arg8 ∨ b = main_arg9

set_option maxHeartbeats 1600000 in
/-- The host's operations write no argument. -/
theorem entry_arg (c : Dev nD) (b : Ref sig .tc) (hb : IsArg b) : entry m c b = m ((c : Thread nD τ).loc b) := by
  rcases hb with rfl | rfl | rfl | rfl | rfl | rfl | rfl | rfl | rfl | rfl <;>
  exact StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- Window `w`'s block at point `t`. -/
def blockAt (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (entry m c (Pipeline.arrRef spec0 w))

/-- The first point's condition holds at the first point alone. -/
theorem first_iff (t : Fin grid0.N) : first (grid0.coords t) ↔ t.val % 64 = 0 := by
  have ht : t.val < 64 := Nat.lt_of_lt_of_eq t.isLt N_0
  have e0 : (grid0.coords t 0).val = t.val / 1 % 64 := Pipeline.Grid.coords_val t 0 (by decide) rfl
  simp only [first, e0]
  word_cmp

end Cert.Csdi
-- ==== Proof.Run.Launch.lean ====
/-
  The run: what the accumulator holds point by point, the body's obligation, and the launch to its end.
-/
module

public import proofs.«01_k».proof.Proof.Run.Kit
public import proofs.«01_k».proof.Proof.Gen.KernelIdeal.Points
public import Idealize.ShloMosaic.Lib.Pipeline.FrameBody
public import Idealize.ShloMosaic.Lib.Claim
public import Idealize.ShloMosaic.Lib.WordCmp

@[expose] public section

set_option maxRecDepth 16384

noncomputable section

namespace Cert.Csdi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The term the body adds at point `t`. -/
def termAt (c : Dev nD) (t : Fin (cfg0 (F := F)).N) : F .f32 :=
  termOf (blockAt m c 4 t) (blockAt m c 3 t) (blockAt m c 6 t) (blockAt m c 5 t) (blockAt m c 7 t) ((blockAt m c 2 t) (ValueIdx.ix3 0 0 0)) ((blockAt m c 0 t) (ValueIdx.ix3 0 0 0))
    ((blockAt m c 1 t) (ValueIdx.ix3 0 0 0)) (found (kfOf (blockAt m c 4 t) ((blockAt m c 2 t) (ValueIdx.ix3 0 0 0))) (words (blockAt m c 4 t) (blockAt m c 6 t)))

/-- What the accumulator holds after point `n`: zero and the terms so far, added in order. -/
def accAt (c : Dev nD) : (n : ℕ) → n < (cfg0 (F := F)).N → F .f32
  | 0, hn => stored (FloatOps.ofBits .f32 0#32) (termAt m c ⟨0, hn⟩)
  | n + 1, hn => stored (accAt c n (Nat.lt_of_succ_lt hn)) (termAt m c ⟨n + 1, hn⟩)

/-- The accumulator at the first point. -/
theorem acc_first (c : Dev nD) (t : Fin (cfg0 (F := F)).N) (h0 : t.val % 64 = 0) :
    accAt m c t.val t.isLt = stored (FloatOps.ofBits .f32 0#32) (termAt m c t) := by
  have hN : t.val < 64 := lt_of_lt_of_eq t.isLt (show (cfg0 (F := F)).N = 64 from N_0)
  obtain ⟨n, hn⟩ := t
  cases n with
  | zero => rfl
  | succ n => exact absurd h0 (by dsimp only at hN ⊢; omega)

/-- The accumulator at a later point. -/
theorem acc_next (c : Dev nD) (t : Fin (cfg0 (F := F)).N) (h0 : ¬ t.val % 64 = 0) :
    accAt m c t.val t.isLt = stored (accAt m c (t.val - 1) (Nat.lt_of_le_of_lt (Nat.sub_le _ _) t.isLt)) (termAt m c t) := by
  obtain ⟨n, hn⟩ := t
  cases n with
  | zero => exact absurd (Nat.zero_mod _) h0
  | succ n => rfl

/-- The pipeline's proof data: each input's block in place, and the accumulator. -/
def pd (_ : Fin 1) (c : Dev nD) : Dat τ (Elt F) Unit ℕ (UR sig nD τ) ℕ (cfg0 (F := F)) c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => fun _ => accAt m c t.val t.isLt
  Φ _ := Pipeline.ΦA spec0 c
  q _ := fullShare
  owed _ := 0

theorem pd_A (c : Dev nD) (w : Fin (cfg0 (F := F)).W) : (pd m 0 c).A w = entry m c (Pipeline.arrRef spec0 w) := by
  rfl

theorem after0 (c : Dev nD) (t : Fin (cfg0 (F := F)).N) : (pd m 0 c).after 0 t = blockAt m c 0 t := rfl
theorem after1 (c : Dev nD) (t : Fin (cfg0 (F := F)).N) : (pd m 0 c).after 1 t = blockAt m c 1 t := rfl
theorem after2 (c : Dev nD) (t : Fin (cfg0 (F := F)).N) : (pd m 0 c).after 2 t = blockAt m c 2 t := rfl
theorem after3 (c : Dev nD) (t : Fin (cfg0 (F := F)).N) : (pd m 0 c).after 3 t = blockAt m c 3 t := rfl
theorem after4 (c : Dev nD) (t : Fin (cfg0 (F := F)).N) : (pd m 0 c).after 4 t = blockAt m c 4 t := rfl
theorem after5 (c : Dev nD) (t : Fin (cfg0 (F := F)).N) : (pd m 0 c).after 5 t = blockAt m c 5 t := rfl
theorem after6 (c : Dev nD) (t : Fin (cfg0 (F := F)).N) : (pd m 0 c).after 6 t = blockAt m c 6 t := rfl
theorem after7 (c : Dev nD) (t : Fin (cfg0 (F := F)).N) : (pd m 0 c).after 7 t = blockAt m c 7 t := rfl
theorem after8 (c : Dev nD) (t : Fin (cfg0 (F := F)).N) : (pd m 0 c).after 8 t = fun _ => accAt m c t.val t.isLt := rfl

theorem before0 (c : Dev nD) (t : Fin (cfg0 (F := F)).N) (d) : (pd m 0 c).before 0 t d = blockAt m c 0 t :=
  ((pd m 0 c).before_in_eq_fetched 0 rfl (fun _ => rfl) (fun _ _ _ => rfl) (fun t => by rw [after0]; unfold Dat.blockOf blockAt; rw [pd_A]; try rfl) t d).trans
    (by unfold Dat.fetched Dat.blockOf blockAt; rw [pd_A]; try rfl)
theorem before1 (c : Dev nD) (t : Fin (cfg0 (F := F)).N) (d) : (pd m 0 c).before 1 t d = blockAt m c 1 t :=
  ((pd m 0 c).before_in_eq_fetched 1 rfl (fun _ => rfl) (fun _ _ _ => rfl) (fun t => by rw [after1]; unfold Dat.blockOf blockAt; rw [pd_A]; try rfl) t d).trans
    (by unfold Dat.fetched Dat.blockOf blockAt; rw [pd_A]; try rfl)
theorem before2 (c : Dev nD) (t : Fin (cfg0 (F := F)).N) (d) : (pd m 0 c).before 2 t d = blockAt m c 2 t :=
  ((pd m 0 c).before_in_eq_fetched 2 rfl (fun _ => rfl) (fun _ _ _ => rfl) (fun t => by rw [after2]; unfold Dat.blockOf blockAt; rw [pd_A]; try rfl) t d).trans
    (by unfold Dat.fetched Dat.blockOf blockAt; rw [pd_A]; try rfl)
theorem before3 (c : Dev nD) (t : Fin (cfg0 (F := F)).N) (d) : (pd m 0 c).before 3 t d = blockAt m c 3 t :=
  ((pd m 0 c).before_in_eq_fetched 3 rfl (fun _ => rfl) (fun _ _ _ => rfl) (fun t => by rw [after3]; unfold Dat.blockOf blockAt; rw [pd_A]; try rfl) t d).trans
    (by unfold Dat.fetched Dat.blockOf blockAt; rw [pd_A]; try rfl)
theorem before4 (c : Dev nD) (t : Fin (cfg0 (F := F)).N) (d) : (pd m 0 c).before 4 t d = blockAt m c 4 t :=
  ((pd m 0 c).before_in_eq_fetched 4 rfl (fun _ => rfl) (fun _ _ _ => rfl) (fun t => by rw [after4]; unfold Dat.blockOf blockAt; rw [pd_A]; try rfl) t d).trans
    (by unfold Dat.fetched Dat.blockOf blockAt; rw [pd_A]; try rfl)
theorem before5 (c : Dev nD) (t : Fin (cfg0 (F := F)).N) (d) : (pd m 0 c).before 5 t d = blockAt m c 5 t :=
  ((pd m 0 c).before_in_eq_fetched 5 rfl (fun _ => rfl) (fun _ _ _ => rfl) (fun t => by rw [after5]; unfold Dat.blockOf blockAt; rw [pd_A]; try rfl) t d).trans
    (by unfold Dat.fetched Dat.blockOf blockAt; rw [pd_A]; try rfl)
theorem before6 (c : Dev nD) (t : Fin (cfg0 (F := F)).N) (d) : (pd m 0 c).before 6 t d = blockAt m c 6 t :=
  ((pd m 0 c).before_in_eq_fetched 6 rfl (fun _ => rfl) (fun _ _ _ => rfl) (fun t => by rw [after6]; unfold Dat.blockOf blockAt; rw [pd_A]; try rfl) t d).trans
    (by unfold Dat.fetched Dat.blockOf blockAt; rw [pd_A]; try rfl)
theorem before7 (c : Dev nD) (t : Fin (cfg0 (F := F)).N) (d) : (pd m 0 c).before 7 t d = blockAt m c 7 t :=
  ((pd m 0 c).before_in_eq_fetched 7 rfl (fun _ => rfl) (fun _ _ _ => rfl) (fun t => by rw [after7]; unfold Dat.blockOf blockAt; rw [pd_A]; try rfl) t d).trans
    (by unfold Dat.fetched Dat.blockOf blockAt; rw [pd_A]; try rfl)
/-- After the first point the accumulator is found as the point before left it. -/
theorem before8 (c : Dev nD) (t : Fin (cfg0 (F := F)).N) (h0 : ¬ t.val % 64 = 0) (d) :
    (pd m 0 c).before 8 t d = fun _ => accAt m c (t.val - 1) (Nat.lt_of_le_of_lt (Nat.sub_le _ _) t.isLt) := by
  have hN : t.val < 64 := lt_of_lt_of_eq t.isLt (show (cfg0 (F := F)).N = 64 from N_0)
  rw [Dat.before_out_kept _ 8 rfl t (by omega) (Bool.eq_false_iff.mpr fun h => by have := (flush0_8 _).mp h; dsimp only at this; omega)
    (fun _ => rfl) (fun _ _ => rfl)]
  rfl

/-- What the body is called with at point `t`. -/
def bodyPre (c : Dev nD) (t : Fin (cfg0 (F := F)).N) : sProp 𝕄 :=
  iprop((pd m 0 c).Φ t.castSucc ∗ (pd m 0 c).owesAt () t.castSucc
    ∗ (∃ d, owns (c : Thread nD τ) (win0_0.stage ((cfg0 (F := F)).slots t 0)) fullShare ((pd m 0 c).before 0 t d))
    ∗ (∃ d, owns (c : Thread nD τ) (win0_1.stage ((cfg0 (F := F)).slots t 1)) fullShare ((pd m 0 c).before 1 t d))
    ∗ (∃ d, owns (c : Thread nD τ) (win0_2.stage ((cfg0 (F := F)).slots t 2)) fullShare ((pd m 0 c).before 2 t d))
    ∗ (∃ d, owns (c : Thread nD τ) (win0_3.stage ((cfg0 (F := F)).slots t 3)) fullShare ((pd m 0 c).before 3 t d))
    ∗ (∃ d, owns (c : Thread nD τ) (win0_4.stage ((cfg0 (F := F)).slots t 4)) fullShare ((pd m 0 c).before 4 t d))
    ∗ (∃ d, owns (c : Thread nD τ) (win0_5.stage ((cfg0 (F := F)).slots t 5)) fullShare ((pd m 0 c).before 5 t d))
    ∗ (∃ d, owns (c : Thread nD τ) (win0_6.stage ((cfg0 (F := F)).slots t 6)) fullShare ((pd m 0 c).before 6 t d))
    ∗ (∃ d, owns (c : Thread nD τ) (win0_7.stage ((cfg0 (F := F)).slots t 7)) fullShare ((pd m 0 c).before 7 t d))
    ∗ (∃ d, owns (c : Thread nD τ) (win0_8.stage ((cfg0 (F := F)).slots t 8)) fullShare ((pd m 0 c).before 8 t d)))

/-- What the body returns at point `t`. -/
def bodyPost (c : Dev nD) (t : Fin (cfg0 (F := F)).N) : sProp 𝕄 :=
  iprop((pd m 0 c).Φ t.succ ∗ (pd m 0 c).owesAt () t.succ
    ∗ owns (c : Thread nD τ) (win0_0.stage ((cfg0 (F := F)).slots t 0)) fullShare ((pd m 0 c).after 0 t)
    ∗ owns (c : Thread nD τ) (win0_1.stage ((cfg0 (F := F)).slots t 1)) fullShare ((pd m 0 c).after 1 t)
    ∗ owns (c : Thread nD τ) (win0_2.stage ((cfg0 (F := F)).slots t 2)) fullShare ((pd m 0 c).after 2 t)
    ∗ owns (c : Thread nD τ) (win0_3.stage ((cfg0 (F := F)).slots t 3)) fullShare ((pd m 0 c).after 3 t)
    ∗ owns (c : Thread nD τ) (win0_4.stage ((cfg0 (F := F)).slots t 4)) fullShare ((pd m 0 c).after 4 t)
    ∗ owns (c : Thread nD τ) (win0_5.stage ((cfg0 (F := F)).slots t 5)) fullShare ((pd m 0 c).after 5 t)
    ∗ owns (c : Thread nD τ) (win0_6.stage ((cfg0 (F := F)).slots t 6)) fullShare ((pd m 0 c).after 6 t)
    ∗ owns (c : Thread nD τ) (win0_7.stage ((cfg0 (F := F)).slots t 7)) fullShare ((pd m 0 c).after 7 t)
    ∗ owns (c : Thread nD τ) (win0_8.stage ((cfg0 (F := F)).slots t 8)) fullShare ((pd m 0 c).after 8 t))

set_option maxHeartbeats 1600000 in
/-- The body at any point. -/
theorem body_sound (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0, before1, before2, before3, before4, before5, before6, before7]
  rw [show (pd m 0 c).Φ t.succ = (pd m 0 c).Φ t.castSucc from rfl,
    show (pd m 0 c).owesAt () t.succ = (pd m 0 c).owesAt () t.castSucc from rfl,
    after0, after1, after2, after3, after4, after5, after6, after7, after8]
  by_cases h0 : t.val % 64 = 0
  · rw [acc_first m c t h0]
    unfold termAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (triple_first c (grid0.coords t) _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _ ((first_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc_next m c t h0]
    simp only [before8 m c t h0]
    unfold termAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (triple_next c (grid0.coords t) _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _ (fun h => h0 ((first_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t` is the body. -/
theorem row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The body's obligation at every point. -/
theorem obligation (c : Dev nD) : BodyObligation (pd (F := F) m 0 c) (defs₀ (F := F)) 𝒱₀ () Set.univ := fun t => by
  rw [bigSep_W0, bigSep_W0, row]
  exact triple_restated (body_sound m c t) rfl .rfl fun _ => .rfl

set_option backward.isDefEq.respectTransparency.types false in
/-- The launch: every execution ends, with every array at what the proof data computes and every counter at zero. -/
theorem launch_ends : θ_run defs (onTc (τ := τ) (main (F := F))) (s₀ m ρ)
    (fun r => (Pipeline.FramePost cfgs (pd m) 0 (entry m)) r ∧ r.2.sem = fun _ => 0) :=
  Pipeline.θ_run_frame (Q' := _) cfgs (pd m) (0 : Fin 1) launch0 defs₀ 𝒱₀ m ρ main
    (hbody := fun c => (obligation m c).loose) (hshare := fun c => (pd m 0 c).share_full fun _ => rfl)
    (howed := fun _ _ => rfl) (V := entry m) (hmain := main_runs m 𝒱₀) (hA := pd_A m) (hΦ := fun _ _ => rfl)

/-- A launch's end leaves a window's argument as launched. -/
theorem win_kept (r) (h : Pipeline.FramePost cfgs (pd m) 0 (entry m) r) (c : Dev nD) (w : Fin (cfg0 (F := F)).W)
    (hw : ((cfg0 (F := F)).win w).isOut = false) (hb : IsArg (Pipeline.arrRef spec0 w)) :
    r.2.mem ((c : Thread nD τ).loc (Pipeline.arrRef spec0 w)) = m ((c : Thread nD τ).loc (Pipeline.arrRef spec0 w)) :=
  ((h c).1 w).trans (((pd m 0 c).arrAt_in w hw _).trans ((pd_A m c w).trans (entry_arg m c _ hb)))

end Cert.Csdi
-- ==== Proof.Run.Ends.lean ====
/-
  The launch's end: every argument as launched, every counter at zero, and the result the accumulator's last value.
-/
module

public import proofs.«01_k».proof.Proof.Run.Launch
public import proofs.«01_k».proof.Proof.Gen.KernelIdeal.Points
public import Idealize.ShloMosaic.Lib.Pipeline.FrameBody
public import Idealize.ShloMosaic.Lib.Claim
public import Idealize.ShloMosaic.Lib.Pipeline.ValueKit

@[expose] public section

set_option maxRecDepth 16384

noncomputable section

namespace Cert.Csdi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every argument is as launched. -/
def Kept (mem : (ℓ : Loc nD τ sig) → Buf (Elt F) ℓ) (c : Dev nD) : Prop :=
    mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_arg4) = m ((c : Thread nD τ).loc main_arg4)
    ∧ mem ((c : Thread nD τ).loc main_arg5) = m ((c : Thread nD τ).loc main_arg5)
    ∧ mem ((c : Thread nD τ).loc main_arg6) = m ((c : Thread nD τ).loc main_arg6)
    ∧ mem ((c : Thread nD τ).loc main_arg7) = m ((c : Thread nD τ).loc main_arg7)
    ∧ mem ((c : Thread nD τ).loc main_arg8) = m ((c : Thread nD τ).loc main_arg8)
    ∧ mem ((c : Thread nD τ).loc main_arg9) = m ((c : Thread nD τ).loc main_arg9)

/-- The launch leaves every argument as it was. -/
theorem kept (r) (h : Pipeline.FramePost cfgs (pd m) 0 (entry m) r) (c : Dev nD) : Kept m r.2.mem c :=
  ⟨win_kept m r h c 3 rfl (Or.inl rfl),
   win_kept m r h c 4 rfl (Or.inr (Or.inl rfl)),
   ((h c).2 _ (Pipeline.mem_restRefs_of main_arg2 (by decide) (show ∀ w : Fin 9, (spec0 w).arr.view.ref ≠ main_arg2 by decide))).trans (entry_arg m c _ (Or.inr (Or.inr (Or.inl rfl)))),
   ((h c).2 _ (Pipeline.mem_restRefs_of main_arg3 (by decide) (show ∀ w : Fin 9, (spec0 w).arr.view.ref ≠ main_arg3 by decide))).trans (entry_arg m c _ (Or.inr (Or.inr (Or.inr (Or.inl rfl))))),
   ((h c).2 _ (Pipeline.mem_restRefs_of main_arg4 (by decide) (show ∀ w : Fin 9, (spec0 w).arr.view.ref ≠ main_arg4 by decide))).trans (entry_arg m c _ (Or.inr (Or.inr (Or.inr (Or.inr (Or.inl rfl)))))),
   win_kept m r h c 5 rfl (Or.inr (Or.inr (Or.inr (Or.inr (Or.inr (Or.inl rfl)))))),
   win_kept m r h c 6 rfl (Or.inr (Or.inr (Or.inr (Or.inr (Or.inr (Or.inr (Or.inl rfl))))))),
   ((h c).2 _ (Pipeline.mem_restRefs_of main_arg7 (by decide) (show ∀ w : Fin 9, (spec0 w).arr.view.ref ≠ main_arg7 by decide))).trans (entry_arg m c _ (Or.inr (Or.inr (Or.inr (Or.inr (Or.inr (Or.inr (Or.inr (Or.inl rfl))))))))),
   win_kept m r h c 7 rfl (Or.inr (Or.inr (Or.inr (Or.inr (Or.inr (Or.inr (Or.inr (Or.inr (Or.inl rfl))))))))),
   ((h c).2 _ (Pipeline.mem_restRefs_of main_arg9 (by decide) (show ∀ w : Fin 9, (spec0 w).arr.view.ref ≠ main_arg9 by decide))).trans (entry_arg m c _ (Or.inr (Or.inr (Or.inr (Or.inr (Or.inr (Or.inr (Or.inr (Or.inr (Or.inr (rfl)))))))))))⟩

/-- The number of points is 64. -/
theorem last_lt : 63 < (cfg0 (F := F)).N := lt_of_lt_of_eq (by decide) (show (cfg0 (F := F)).N = 64 from N_0).symm

/-- The result array after the launch: the accumulator's last value. -/
theorem result_is (c : Dev nD) : (pd m 0 c).arrAt 8 (cfg0 (F := F)).N = fun _ => accAt m c 63 last_lt := by
  refine (pd m 0 c).arrAt_eq_of_covers 8 (fun _ => accAt m c 63 last_lt) (show win0_8.Covers by decide +kernel) ?_
  intro t ht y
  have h63 : t.val % 64 = 63 := (flush0_8 t).mp ht
  have hN : t.val < 64 := lt_of_lt_of_eq t.isLt (show (cfg0 (F := F)).N = 64 from N_0)
  have e : t.val = 63 := by omega
  obtain ⟨n, hn⟩ := t
  cases e
  rfl

/-- Every execution ends, with the result at the accumulator's last value, the arguments as launched and every counter at zero. -/
theorem run_ends : θ_run defs (onTc (τ := τ) (main (F := F))) ⟨m, fun _ => 0, ρ⟩
    (fun r => (∀ c : Dev nD, r.2.mem ((c : Thread nD τ).loc main_v14) = (fun _ => accAt m c 63 last_lt) ∧ Kept m r.2.mem c) ∧ r.2.sem = fun _ => 0) :=
  (θ_run defs _ _).mono (fun r h => ⟨fun c => ⟨((h.1 c).1 8).trans (result_is m c), kept m r h.1 c⟩, h.2⟩) (launch_ends m ρ)

end Cert.Csdi
-- ==== Proof.Value.Order.lean ====
/-
  Sorting positions by a key, and then sorting the sorted positions, tells each position's rank.
-/
module

public import Idealize.ShloMosaic.Lib.SortFacts

@[expose] public section

namespace Cert.Csdi

open Idealize.ShloMosaic

variable {n : ℕ} (R : Fin n → Fin n → Bool)

/-- A list without inversions of a decided total order is sorted by it. -/
theorem sorted_before (hR : ∀ a b, R a b = true → R b a = false)
    (ht : ∀ a b, a ≠ b → R a b = true ∨ R b a = true)
    (hn : ∀ a b c, R a b = false → R b c = false → R a c = false) {p q : Fin n} (h : p < q) :
    R (sortedFrom R p) (sortedFrom R q) = true := by
  have hinv := sortedFrom_noInversion R R hR (fun _ _ h => h) hn p q h
  rcases ht (sortedFrom R p) (sortedFrom R q) (fun e => absurd (sortedFrom_injective R e) (by omega)) with h1 | h1
  · exact h1
  · rw [hinv] at h1; cases h1

/-- The place at which an element is sorted is the count of elements before it. -/
theorem place_eq_card (hR : ∀ a b, R a b = true → R b a = false)
    (ht : ∀ a b, a ≠ b → R a b = true ∨ R b a = true)
    (hn : ∀ a b c, R a b = false → R b c = false → R a c = false) (p : Fin n) :
    (Finset.univ.filter fun j => R j (sortedFrom R p) = true).card = p.val := by
  have himg : (Finset.univ.filter fun j => R j (sortedFrom R p) = true) = (Finset.Iio p).image (sortedFrom R) := by
    ext j
    simp only [Finset.mem_filter, Finset.mem_univ, true_and, Finset.mem_image, Finset.mem_Iio]
    constructor
    · intro hj
      obtain ⟨q, rfl⟩ := sortedFrom_surjective R j
      refine ⟨q, ?_, rfl⟩
      rcases lt_trichotomy q p with h | h | h
      · exact h
      · subst h; have := hR _ _ hj; rw [hj] at this; cases this
      · have := hR _ _ (sorted_before R hR ht hn h); rw [hj] at this; cases this
    · rintro ⟨q, hq, rfl⟩
      exact sorted_before R hR ht hn hq
  rw [himg, Finset.card_image_of_injective _ (sortedFrom_injective R), Fin.card_Iio]

/-- The order by `B`, positions the order does not part taken in their own order. -/
def parted (B : Fin n → Fin n → Bool) (a b : Fin n) : Bool := B a b || (!B b a && decide (a < b))

/-- A stable sort of a list in order of position is the sort by the parted order. -/
theorem stableSort_parted (B : Fin n → Fin n → Bool) (l : List (Fin n)) (hl : l.Pairwise (· < ·)) :
    stableSort B l = stableSort (parted B) l := by
  induction l with
  | nil => rfl
  | cons a l ih =>
    rw [List.pairwise_cons] at hl
    unfold stableSort
    rw [ih hl.2]
    refine insertBefore_congr _ _ _ _ fun b hb => ?_
    have hab := hl.1 b ((perm_stableSort (parted B) l).mem_iff.mp hb)
    unfold parted
    rw [decide_eq_false (by omega : ¬ b < a)]
    simp

theorem sortedFrom_parted (B : Fin n → Fin n → Bool) : sortedFrom B = sortedFrom (parted B) := by
  have h : sortPositions n B = sortPositions n (parted B) :=
    stableSort_parted B _ (List.pairwise_lt_finRange n)
  funext k
  unfold sortedFrom
  rw [List.get_of_eq h]
  rfl

/-- Positions sorted by a key, and the sorted positions sorted: a position's place is the count of positions of a
    smaller key, and of the same key and an earlier position. -/
theorem rank_of_sorts {α : Type} [LinearOrder α] (key : Fin n → α) (B : Fin n → Fin n → Bool)
    (hB : ∀ a b, B a b = decide (key a < key b)) (B' : Fin n → Fin n → Bool)
    (hB' : ∀ a b, B' a b = decide (sortedFrom B a < sortedFrom B b)) (i : Fin n) :
    (sortedFrom B' i).val = (Finset.univ.filter fun j => key j < key i ∨ (key j = key i ∧ j < i)).card := by
  have hP : ∀ a b, parted B a b = true ↔ key a < key b ∨ (key a = key b ∧ a < b) := by
    intro a b
    unfold parted
    rw [hB, hB]
    simp only [Bool.or_eq_true, decide_eq_true_eq, Bool.and_eq_true, Bool.not_eq_true', decide_eq_false_iff_not]
    constructor
    · rintro (h | ⟨h1, h2⟩)
      · exact Or.inl h
      · rcases lt_trichotomy (key a) (key b) with h | h | h
        · exact Or.inl h
        · exact Or.inr ⟨h, h2⟩
        · exact absurd h h1
    · rintro (h | ⟨h1, h2⟩)
      · exact Or.inl h
      · exact Or.inr ⟨by rw [h1]; exact lt_irrefl _, h2⟩
  have hPf : ∀ a b, parted B a b = false ↔ ¬ (key a < key b ∨ (key a = key b ∧ a < b)) := by
    intro a b; rw [← hP]; simp
  have hB1 : ∀ a b, B' a b = true ↔ sortedFrom B a < sortedFrom B b := by intro a b; rw [hB']; simp
  have hB0 : ∀ a b, B' a b = false ↔ ¬ sortedFrom B a < sortedFrom B b := by intro a b; rw [hB']; simp
  have hinj := sortedFrom_injective B
  have hs := place_eq_card B' (fun a b h => (hB0 _ _).mpr (not_lt.mpr (le_of_lt ((hB1 _ _).mp h))))
    (fun a b h => by
      rw [hB1, hB1]
      exact lt_or_gt_of_ne fun e => h (hinj e))
    (fun a b c h1 h2 => by
      rw [hB0, not_lt] at *
      exact le_trans h2 h1) i
  have hcard : (Finset.univ.filter fun j => B' j (sortedFrom B' i) = true).card = (sortedFrom B (sortedFrom B' i)).val := by
    have : (Finset.univ.filter fun j => B' j (sortedFrom B' i) = true).image (sortedFrom B)
        = Finset.Iio (sortedFrom B (sortedFrom B' i)) := by
      ext x
      simp only [Finset.mem_image, Finset.mem_filter, Finset.mem_univ, true_and, Finset.mem_Iio, hB1]
      constructor
      · rintro ⟨j, hj, rfl⟩; exact hj
      · intro hx
        obtain ⟨j, rfl⟩ := sortedFrom_surjective B x
        exact ⟨j, hx, rfl⟩
    rw [← Finset.card_image_of_injective _ hinj, this, Fin.card_Iio]
  have hi : sortedFrom B (sortedFrom B' i) = i := Fin.ext (by rw [← hcard, hs])
  have hp := place_eq_card (parted B)
    (fun a b h => by
      rw [hP] at h; rw [hPf]
      rintro (h' | ⟨h1, h2⟩)
      · rcases h with h | ⟨h, _⟩
        · exact lt_asymm h h'
        · rw [h] at h'; exact lt_irrefl _ h'
      · rcases h with h | ⟨_, h⟩
        · rw [h1] at h; exact lt_irrefl _ h
        · omega)
    (fun a b h => by
      rw [hP, hP]
      rcases lt_trichotomy (key a) (key b) with h' | h' | h'
      · exact Or.inl (Or.inl h')
      · rcases lt_or_gt_of_ne h with h2 | h2
        · exact Or.inl (Or.inr ⟨h', h2⟩)
        · exact Or.inr (Or.inr ⟨h'.symm, h2⟩)
      · exact Or.inr (Or.inl h'))
    (fun a b c h1 h2 => by
      rw [hPf, not_or, not_lt] at *
      refine ⟨le_trans h2.1 h1.1, fun h => ?_⟩
      have e1 : key b = key c := le_antisymm (by rw [← h.1]; exact h1.1) h2.1
      have e2 : key a = key b := by rw [h.1, e1]
      have := not_lt.mp fun hh => h1.2 ⟨e2, hh⟩
      have := not_lt.mp fun hh => h2.2 ⟨e1, hh⟩
      omega)
    (sortedFrom B' i)
  rw [← sortedFrom_parted, hi] at hp
  rw [← hp]
  congr 1
  ext j
  simp only [Finset.mem_filter, Finset.mem_univ, true_and, hP]

end Cert.Csdi
-- ==== Proof.Value.Word.lean ====
/-
  The value a word spells as an f32, in order: the words of nonnegative values are ordered as their values, every
  value m / 2^23 below one is spelt by a word, and the search for a word bit by bit finds it.
-/
module

public import Idealize.ShloMosaic.PureOps.Ideal
public import Idealize.ShloMosaic.PureOps.Ideal.Laws
public import Mathlib.Tactic.Linarith
public import Mathlib.Tactic.NormNum
public import Mathlib.Tactic.Ring
public import Mathlib.Tactic.Positivity

@[expose] public section

noncomputable section

namespace Cert.Csdi

open Idealize.ShloMosaic

/-- The value of the word `w`: the exponent field is `w / 2^23`, the fraction field `w % 2^23`. -/
def wordVal (w : ℕ) : ℝ :=
  if w / 8388608 = 0 then ((w % 8388608 : ℕ) : ℝ) * 2 ^ (-149 : ℤ)
  else ((8388608 : ℝ) + ((w % 8388608 : ℕ) : ℝ)) * 2 ^ (((w / 8388608 : ℕ) : ℤ) - 150)

theorem wordVal_zero : wordVal 0 = 0 := by unfold wordVal; simp

/-- A larger word spells a larger value. -/
theorem wordVal_strictMono : StrictMono wordVal := by
  refine strictMono_nat_of_lt_succ fun w => ?_
  have hw := Nat.div_add_mod w 8388608
  have hl := Nat.mod_lt w (show 0 < 8388608 by decide)
  generalize hq : w / 8388608 = q at hw
  generalize hr : w % 8388608 = r at hw hl
  unfold wordVal
  rw [hq, hr]
  have two : (2 : ℝ) ≠ 0 := by norm_num
  by_cases hc : r + 1 < 8388608
  · have e1 : (w + 1) / 8388608 = q := by omega
    have e2 : (w + 1) % 8388608 = r + 1 := by omega
    rw [e1, e2]
    have p : ∀ z : ℤ, (0 : ℝ) < 2 ^ z := fun z => zpow_pos (by norm_num) z
    split
    · have := p (-149); push_cast; nlinarith
    · have := p ((q : ℤ) - 150); push_cast; nlinarith
  · have e1 : (w + 1) / 8388608 = q + 1 := by omega
    have e2 : (w + 1) % 8388608 = 0 := by omega
    have hr' : r = 8388607 := by omega
    have hn : ¬ (q + 1 = 0) := by omega
    rw [e1, e2, if_neg hn, hr']
    split
    · rename_i h0
      rw [h0]
      have e : ((0 + 1 : ℕ) : ℤ) - 150 = -149 := by norm_num
      rw [e]
      have : (0 : ℝ) < 2 ^ (-149 : ℤ) := zpow_pos (by norm_num) _
      push_cast; nlinarith
    · have e : ((q + 1 : ℕ) : ℤ) - 150 = ((q : ℤ) - 150) + 1 := by push_cast; ring
      rw [e, zpow_add_one₀ two]
      have : (0 : ℝ) < 2 ^ ((q : ℤ) - 150) := zpow_pos (by norm_num) _
      push_cast; nlinarith

/-- What a word without sign below the infinity's spells is its value. -/
theorem ofBits_wordVal (w : ℕ) (hw : w < 2139095040) :
    (FloatOps.ofBits .f32 (BitVec.ofNat 32 w) : Ideal .f32) = ((wordVal w : ℝ) : EReal) := by
  show Ideal.ieee 8 23 (BitVec.ofNat 32 w) = _
  have hex : ((BitVec.ofNat 32 w).extractLsb' 23 8).toNat = w / 8388608 := by
    rw [BitVec.extractLsb'_toNat, BitVec.toNat_ofNat, Nat.shiftRight_eq_div_pow]
    omega
  have hfr : ((BitVec.ofNat 32 w).extractLsb' 0 23).toNat = w % 8388608 := by
    rw [BitVec.extractLsb'_toNat, BitVec.toNat_ofNat, Nat.shiftRight_eq_div_pow]
    omega
  have hsg : ((BitVec.ofNat 32 w).extractLsb' 31 1 == 1#1) = false := by
    rw [beq_eq_false_iff_ne]
    intro h
    have := congrArg BitVec.toNat h
    rw [BitVec.extractLsb'_toNat, BitVec.toNat_ofNat, Nat.shiftRight_eq_div_pow] at this
    simp only [BitVec.toNat_ofNat] at this
    omega
  unfold Ideal.ieee
  simp only [hex, hfr, show (8 + 23 : ℕ) = 31 from rfl, hsg]
  have h255 : ¬ (w / 8388608 = 2 ^ 8 - 1) := by
    norm_num; omega
  rw [if_neg h255]
  unfold wordVal
  split
  · norm_num
  · have e : ((w / 8388608 : ℕ) : ℤ) - (2 ^ (8 - 1) - 1) - 23 = ((w / 8388608 : ℕ) : ℤ) - 150 := by norm_num; omega
    norm_num at e ⊢
    rw [e]

/-- Every value m / 2^23 below one is spelt by a word below the one's. -/
theorem wordVal_grid (m : ℕ) (hm : m < 8388608) : ∃ w : ℕ, w < 1065353216 ∧ wordVal w = (m : ℝ) / 8388608 := by
  rcases Nat.eq_zero_or_pos m with rfl | hpos
  · exact ⟨0, by omega, by rw [wordVal_zero]; simp⟩
  have h1 := Nat.log2_self_le (n := m) (by omega)
  have h2 := Nat.lt_log2_self (n := m)
  have ha : m.log2 < 23 := by
    rw [Nat.log2_lt (by omega)]; omega
  generalize m.log2 = a at h1 h2 ha
  obtain ⟨d, hd⟩ : ∃ d, a + d = 23 := ⟨23 - a, by omega⟩
  have hp : 2 ^ a * 2 ^ d = 8388608 := by rw [← pow_add, hd]; norm_num
  have hp1 : 2 ^ (a + 1) * 2 ^ d = 16777216 := by rw [pow_succ, Nat.mul_right_comm, hp]
  have hlo : 8388608 ≤ m * 2 ^ d := by rw [← hp]; exact Nat.mul_le_mul_right _ h1
  have hhi : m * 2 ^ d < 16777216 := by
    rw [← hp1]; exact Nat.mul_lt_mul_of_pos_right h2 (by positivity)
  have q1 : (8388608 * (a + 104) + (m * 2 ^ d - 8388608)) / 8388608 = a + 104 := by omega
  have q2 : (8388608 * (a + 104) + (m * 2 ^ d - 8388608)) % 8388608 = m * 2 ^ d - 8388608 := by omega
  refine ⟨8388608 * (a + 104) + (m * 2 ^ d - 8388608), by omega, ?_⟩
  unfold wordVal
  rw [q1, q2, if_neg (by omega)]
  have e : ((8388608 : ℝ) + ((m * 2 ^ d - 8388608 : ℕ) : ℝ)) = m * 2 ^ d := by
    rw [Nat.cast_sub hlo]; push_cast; ring
  have e2 : (((a + 104 : ℕ) : ℤ) - 150) = -((d : ℕ) : ℤ) + (-23) := by push_cast; omega
  rw [e, e2, zpow_add₀ (by norm_num), zpow_neg, zpow_natCast]
  have hd0 : (2 : ℝ) ^ d ≠ 0 := by positivity
  have e3 : (2 : ℝ) ^ (-23 : ℤ) = 1 / 8388608 := by norm_num
  rw [e3]
  field_simp

/-- One step of the search for the word `u`, from the bits of `u` above `2 P` to those above `P`. -/
theorem bit_step (u q k : ℕ) (hq : q = u / 2 ^ (k + 1)) :
    (if (2 ^ (k + 1) * q ||| 2 ^ k) ≤ u then (2 ^ (k + 1) * q ||| 2 ^ k) else 2 ^ (k + 1) * q) = 2 ^ k * (u / 2 ^ k) := by
  have e := Nat.two_pow_add_eq_or_of_lt (i := k + 1) (b := 2 ^ k) (Nat.pow_lt_pow_right (by omega) (by omega)) q
  rw [← e]
  have hP : 0 < 2 ^ k := by positivity
  have h2 : 2 ^ (k + 1) = 2 * 2 ^ k := by rw [pow_succ]; ring
  have hd := Nat.div_add_mod u (2 ^ (k + 1))
  have hm := Nat.mod_lt u (show 0 < 2 ^ (k + 1) by positivity)
  rw [← hq] at hd
  generalize u % 2 ^ (k + 1) = r at hd hm
  rw [h2] at hd hm ⊢
  generalize 2 ^ k = P at *
  split
  · rename_i h
    have : u / P = 2 * q + 1 := by
      apply Nat.div_eq_of_lt_le
      · nlinarith
      · nlinarith
    rw [this]; ring
  · rename_i h
    have : u / P = 2 * q := by
      apply Nat.div_eq_of_lt_le
      · nlinarith
      · nlinarith
    rw [this]; ring

end Cert.Csdi
-- ==== Proof.Value.Rank.lean ====
/-
  Which entries are among the first k of a stable descending order, told by a threshold: the entries above it, and
  of those at it the ones up to a place.
-/
module

public import Mathlib.Data.Fintype.Card
public import Mathlib.Order.Fin.Basic
public import Mathlib.Tactic.Linarith

@[expose] public section

namespace Cert.Csdi

variable {ι : Type} [Fintype ι] [DecidableEq ι] (w pos : ι → ℕ)

/-- How many entries come before `i`: those of a greater word, and those of the same word at an earlier place. -/
def rankOf (i : ι) : ℕ := (Finset.univ.filter fun j => w i < w j ∨ (w j = w i ∧ pos j < pos i)).card

/-- How many words are at or above `v`. -/
def geCard (v : ℕ) : ℕ := (Finset.univ.filter fun j => v ≤ w j).card

/-- How many words are `v` at a place up to `x`. -/
def tieCard (v x : ℕ) : ℕ := (Finset.univ.filter fun j => w j = v ∧ pos j ≤ x).card

omit [DecidableEq ι] in
theorem geCard_anti {v v' : ℕ} (h : v ≤ v') : geCard w v' ≤ geCard w v := by
  unfold geCard
  exact Finset.card_le_card fun j hj => by
    simp only [Finset.mem_filter, Finset.mem_univ, true_and] at hj ⊢; omega

omit [DecidableEq ι] in
theorem tieCard_mono (v : ℕ) {x x' : ℕ} (h : x ≤ x') : tieCard w pos v x ≤ tieCard w pos v x' := by
  unfold tieCard
  exact Finset.card_le_card fun j hj => by
    simp only [Finset.mem_filter, Finset.mem_univ, true_and] at hj ⊢; omega

/-- An entry at or above `v` has at most the others at or above `v` before it. -/
theorem rank_lt_of_ge {v : ℕ} {i : ι} (h : v ≤ w i) : rankOf w pos i < geCard w v := by
  unfold rankOf geCard
  apply Finset.card_lt_card
  rw [Finset.ssubset_iff_of_subset]
  · exact ⟨i, by simp [h], by simp⟩
  · intro j hj
    simp only [Finset.mem_filter, Finset.mem_univ, true_and] at hj ⊢; omega

omit [DecidableEq ι] in
/-- An entry below `v` has all those at or above `v` before it. -/
theorem rank_ge_of_lt {v : ℕ} {i : ι} (h : w i < v) : geCard w v ≤ rankOf w pos i := by
  unfold rankOf geCard
  exact Finset.card_le_card fun j hj => by
    simp only [Finset.mem_filter, Finset.mem_univ, true_and] at hj ⊢; omega

/-- At the word itself the rank counts the greater words and the earlier places. -/
theorem rank_at (i : ι) :
    rankOf w pos i = geCard w (w i + 1) + (Finset.univ.filter fun j => w j = w i ∧ pos j < pos i).card := by
  unfold rankOf geCard
  rw [← Finset.card_union_of_disjoint]
  · congr 1
    ext j
    simp only [Finset.mem_filter, Finset.mem_univ, true_and, Finset.mem_union]
    omega
  · rw [Finset.disjoint_filter]
    intro j _ h1 h2; omega

/-- The place found for the `r`-th entry of the word `v`. -/
def TiePlace (v r x : ℕ) : Prop := r ≤ tieCard w pos v x ∧ ∀ y, y < x → tieCard w pos v y < r

/-- An entry at the word is up to the place found exactly if fewer than `r` of its word are before it. -/
theorem tie_iff {v r x : ℕ} (hr : 0 < r) (h : TiePlace w pos v r x) (i : ι) (hi : w i = v) :
    pos i ≤ x ↔ (Finset.univ.filter fun j => w j = w i ∧ pos j < pos i).card < r := by
  obtain ⟨h1, h2⟩ := h
  rcases Nat.eq_zero_or_pos (pos i) with h0 | hp
  · constructor
    · intro _
      have : (Finset.univ.filter fun j => w j = w i ∧ pos j < pos i) = ∅ := by
        apply Finset.filter_eq_empty_iff.mpr; intro j _; omega
      rw [this, Finset.card_empty]; exact hr
    · intro _; omega
  have e : (Finset.univ.filter fun j => w j = w i ∧ pos j < pos i).card = tieCard w pos v (pos i - 1) := by
    unfold tieCard
    congr 1
    ext j
    simp only [Finset.mem_filter, Finset.mem_univ, true_and]
    rw [hi]; omega
  rw [e]
  constructor
  · intro hx; exact h2 _ (by omega)
  · intro hc
    by_contra hx
    have := tieCard_mono w pos v (show x ≤ pos i - 1 by omega)
    omega

/-- The entries kept by the threshold the searches find are those of rank below `K`, beside the zero words. -/
theorem kept_iff {K v x : ℕ} (hK : 0 < K) (hge : K ≤ geCard w v) (hgt : geCard w (v + 1) < K)
    (hx : 0 < v → K - geCard w (v + 1) < geCard w v - geCard w (v + 1) → TiePlace w pos v (K - geCard w (v + 1)) x)
    (i : ι) :
    ((v < w i ∨ (w i = v ∧ 0 < v ∧
        (K - geCard w (v + 1) < geCard w v - geCard w (v + 1) → pos i ≤ x))) ∨ w i = 0)
      ↔ (w i = 0 ∨ rankOf w pos i < K) := by
  rcases Nat.eq_zero_or_pos (w i) with h0 | hpos
  · simp [h0]
  have h0 : ¬ w i = 0 := by omega
  simp only [h0, or_false, false_or]
  rcases Nat.lt_trichotomy (w i) v with hlt | heq | hgt'
  · constructor
    · rintro (h | ⟨h, _⟩) <;> omega
    · intro h
      have := rank_ge_of_lt w pos hlt
      omega
  · have hv : 0 < v := by omega
    have hra := rank_at w pos i
    rw [heq] at hra
    by_cases hs : K - geCard w (v + 1) < geCard w v - geCard w (v + 1)
    · have ht := tie_iff w pos (by omega) (hx hv hs) i heq
      rw [heq] at ht
      constructor
      · rintro (h | ⟨_, _, h⟩)
        · omega
        · have := ht.mp (h hs); omega
      · intro h
        exact Or.inr ⟨heq, hv, fun _ => ht.mpr (by omega)⟩
    · constructor
      · intro _
        have := rank_lt_of_ge w pos (show v ≤ w i by omega)
        omega
      · intro _
        exact Or.inr ⟨heq, hv, fun h => absurd h hs⟩
  · constructor
    · intro _
      have := rank_lt_of_ge w pos (show v + 1 ≤ w i by omega)
      omega
    · intro _; exact Or.inl hgt'

end Cert.Csdi
-- ==== Proof.Value.Sums.lean ====
/-
  The kernel's vector sums as sums over positions, its counts as numbers of positions, and its words as the words of
  the values.
-/
module

public import proofs.«01_k».proof.Proof.Run.Model
public import proofs.«01_k».proof.Proof.Value.Word
public import proofs.«01_k».proof.Proof.Value.Rank
public import Idealize.ShloMosaic.PureOps.Ideal.Laws
public import Idealize.ShloMosaic.Lib.WordCmp
public import Idealize.ShloMosaic.Lib.Affine

@[expose] public section

set_option maxRecDepth 16384

noncomputable section

namespace Cert.Csdi

open Cert.KernelIdeal Cert.KernelIdeal.Gen
open Idealize.ShloMosaic

/-- A position's place in the flat order. -/
def place (i : S128x2048.Idx) : ℕ := 2048 * (i 0).val + (i 1).val

theorem place_lt (i : S128x2048.Idx) : place i < 262144 := by
  unfold place
  have h0 : (i 0).val < 128 := (i 0).isLt
  have h1 : (i 1).val < 2048 := (i 1).isLt
  omega

/-- A sum over one shape's indices is the sum over a recast's. -/
theorem sum_cast {s t : Shape} (h : s.ShapeCasts t) (x : s.Idx → EReal) : ∑ i : t.Idx, shapeCast t x h i = ∑ i : s.Idx, x i := by
  unfold shapeCast
  exact Equiv.sum_comp (Shape.reshapeEquiv h) x

/-- The sum of a whole table as the kernel takes it. -/
theorem whole_sum (x : FVec Ideal S128x2048 .f32) :
    extractAt ![0, 0, 0] (shapeCast S1x1x1 (multiReduction .add [1, 2] S1
      (shapeCast S1x128x2048 x shapeCasts_S128x2048_S1x128x2048) 0x00000000#32 reduces_S1x128x2048_S1 (.inl rfl) rfl)
      shapeCasts_S1_S1x1x1) inpos_S1x1x1_p0_0_0 = ∑ i : S128x2048.Idx, x i := by
  unfold extractAt
  exact (Ideal.multiReduction_add_total _ _ _ (by decide) _ _ _).trans (sum_cast _ x)

/-- The sum of all elements of eight rows. -/
theorem total_eq (x : FVec Ideal S8x2048 .f32) : total x = ∑ i : S8x2048.Idx, x i := by
  unfold total extractAt
  exact (Ideal.multiReduction_add_total _ _ _ (by decide) _ _ _).trans (sum_cast _ x)

theorem one_word : (Scalar.ofBits .f32 0x3F800000#32 : Ideal .f32) = 1 := by
  refine (ofBits_wordVal 1065353216 (by omega)).trans ?_
  have e : wordVal 1065353216 = 1 := by unfold wordVal; norm_num
  rw [e]; rfl

theorem count_word : (Scalar.ofBits .f32 0x48800000#32 : Ideal .f32) = ((262144 : ℕ) : EReal) := by
  refine (ofBits_wordVal 1216348160 (by omega)).trans ?_
  have e : wordVal 1216348160 = ((262144 : ℕ) : ℝ) := by unfold wordVal; norm_num
  rw [e]; rfl

theorem zero_word : (Scalar.ofBits .f32 0x00000000#32 : Ideal .f32) = 0 := Ideal.ofBits_zero_f32

/-- A sum of ones and zeros is a count. -/
theorem sum_ones {ι : Type} [Fintype ι] (p : ι → Prop) [DecidablePred p] (f : ι → EReal)
    (h : ∀ i, f i = if p i then 1 else 0) : ∑ i, f i = (((Finset.univ.filter p).card : ℕ) : EReal) := by
  rw [Finset.sum_congr rfl fun i _ => h i, Finset.sum_boole]

/-- The words as natural numbers. -/
def nat32 (vb : IVec S128x2048 32) (i : S128x2048.Idx) : ℕ := (vb i).toNat

theorem sge_iff {x y : BitVec 32} (hx : x.toNat < 2147483648) (hy : y.toNat < 2147483648) :
    IntOp.cmpi .sge x y = 1#1 ↔ y.toNat ≤ x.toNat := by
  rw [WordCmp.cmpi_sge_eq, WordCmp.toInt_eq_toNat_of_lt_half hx, WordCmp.toInt_eq_toNat_of_lt_half hy]
  by_cases h : y.toNat ≤ x.toNat <;> simp [h]

theorem sle_iff {x y : BitVec 32} (hx : x.toNat < 2147483648) (hy : y.toNat < 2147483648) :
    IntOp.cmpi .sle x y = 1#1 ↔ x.toNat ≤ y.toNat := by
  rw [WordCmp.cmpi_sle_eq, WordCmp.toInt_eq_toNat_of_lt_half hx, WordCmp.toInt_eq_toNat_of_lt_half hy]
  by_cases h : x.toNat ≤ y.toNat <;> simp [h]

theorem sgt_iff {x y : BitVec 32} (hx : x.toNat < 2147483648) (hy : y.toNat < 2147483648) :
    IntOp.cmpi .sgt x y = 1#1 ↔ y.toNat < x.toNat := by
  rw [WordCmp.cmpi_sgt_eq, WordCmp.toInt_eq_toNat_of_lt_half hx, WordCmp.toInt_eq_toNat_of_lt_half hy]
  by_cases h : y.toNat < x.toNat <;> simp [h]

theorem eq_iff {x y : BitVec 32} : IntOp.cmpi .eq x y = 1#1 ↔ x.toNat = y.toNat := by
  unfold IntOp.cmpi
  rw [BitVec.toNat_inj]
  by_cases h : x = y
  · simp [h]
  · simp only [h, iff_false, beq_false_of_ne h]; decide

/-- The count of words at or above `v`. -/
theorem countGe_eq (vb : IVec S128x2048 32) (v : BitVec 32) (hb : ∀ i, (vb i).toNat < 2147483648) (hv : v.toNat < 2147483648) :
    (countGe vb v : Ideal .f32) = ((geCard (nat32 vb) v.toNat : ℕ) : EReal) := by
  unfold countGe k0_pay2
  refine (whole_sum _).trans ?_
  refine sum_ones (fun i => v.toNat ≤ nat32 vb i) _ fun i => ?_
  show (if IntOp.cmpi .sge (vb i) v = 1#1 then _ else _) = _
  unfold nat32
  simp only [sge_iff (hb i) hv]
  show (if _ then (Scalar.ofBits .f32 0x3F800000#32 : Ideal .f32) else (Scalar.ofBits .f32 0x00000000#32 : Ideal .f32)) = _
  rw [one_word, zero_word]

theorem place_word (i : S128x2048.Idx) :
    IntOp.addi (IntOp.muli (iota .tc S128x2048 32 [0] iota_S128x2048_d0_w32 i) 2048#32) (iota .tc S128x2048 32 [1] iota_S128x2048_d1_w32 i)
      = BitVec.ofNat 32 (place i) := by
  have e0 : iota .tc S128x2048 32 [0] iota_S128x2048_d0_w32 i = BitVec.ofNat 32 (i 0).val := by
    unfold iota; simp
  have e1 : iota .tc S128x2048 32 [1] iota_S128x2048_d1_w32 i = BitVec.ofNat 32 (i 1).val := by
    unfold iota; simp
  rw [e0, e1]
  unfold IntOp.addi IntOp.muli place
  apply BitVec.eq_of_toNat_eq
  simp only [BitVec.toNat_add, BitVec.toNat_mul, BitVec.toNat_ofNat]
  omega

/-- The count of words equal to `v` up to the middle of two places. -/
theorem countTie_eq (vb : IVec S128x2048 32) (v lo hi : BitVec 32) (hh : (half (Scalar.addi lo hi)).toNat < 2147483648) :
    (k0_pay21 vb v lo hi : Ideal .f32)
      = ((tieCard (nat32 vb) place v.toNat (half (Scalar.addi lo hi)).toNat : ℕ) : EReal) := by
  unfold k0_pay21
  refine (whole_sum _).trans ?_
  refine sum_ones (fun i => nat32 vb i = v.toNat ∧ place i ≤ (half (Scalar.addi lo hi)).toNat) _ fun i => ?_
  show (if IntOp.andi (IntOp.cmpi .eq (vb i) v) (IntOp.cmpi .sle (IntOp.addi (IntOp.muli (iota .tc S128x2048 32 [0] iota_S128x2048_d0_w32 i) 2048#32) (iota .tc S128x2048 32 [1] iota_S128x2048_d1_w32 i)) (half (Scalar.addi lo hi))) = 1#1 then (Scalar.ofBits .f32 0x3F800000#32 : Ideal .f32) else (Scalar.ofBits .f32 0x00000000#32 : Ideal .f32)) = _
  rw [place_word, one_word, zero_word]
  have hp := place_lt i
  have hn : (BitVec.ofNat 32 (place i)).toNat = place i := by rw [BitVec.toNat_ofNat]; omega
  congr 1
  rw [IntOp.andi_eq_one, eq_iff, sle_iff (by rw [hn]; omega) hh, hn]
  rfl

end Cert.Csdi
-- ==== Proof.Value.Search.lean ====
/-
  What the kernel's three searches find: the word of a value, the threshold word, and the last place taken among the
  words equal to the threshold.
-/
module

public import proofs.«01_k».proof.Proof.Value.Sums
public import proofs.«01_k».proof.Proof.Run.While
public import Idealize.ShloMosaic.Lib.StableHlo.Predicate

@[expose] public section

set_option maxRecDepth 16384

noncomputable section

namespace Cert.Csdi

open Cert.KernelIdeal Cert.KernelIdeal.Gen
open Idealize.ShloMosaic

/-- What holds at the start and is kept from each trip to the next holds at the end. -/
theorem fold_keeps {σ : Type} (Inv : ℕ → σ → Prop) : ∀ (n : ℕ) (g : Fin n → σ → σ) (init : σ), Inv 0 init →
    (∀ (k : Fin n) s, Inv k.val s → Inv (k.val + 1) (g k s)) → Inv n (Scf.fold g init) := by
  intro n
  induction n with
  | zero => intro g init h0 _; rw [Scf.fold_eq]; exact h0
  | succ n ih =>
    intro g init h0 hs
    have h := ih (fun k s => g k.castSucc s) init h0 fun k s hk => hs k.castSucc s hk
    rw [Scf.fold_eq] at h ⊢
    rw [List.finRange_succ_last, List.foldl_append, List.foldl_map]
    exact hs (Fin.last n) _ h

/-! ## The word of a value -/

theorem ofNat_or {a b : ℕ} (ha : a < 4294967296) (hb : b < 4294967296) :
    IntOp.ori (BitVec.ofNat 32 a) (BitVec.ofNat 32 b) = BitVec.ofNat 32 (a ||| b) := by
  unfold IntOp.ori
  apply BitVec.eq_of_toNat_eq
  have := Nat.or_lt_two_pow (n := 32) ha hb
  rw [BitVec.toNat_or, BitVec.toNat_ofNat, BitVec.toNat_ofNat, BitVec.toNat_ofNat, Nat.mod_eq_of_lt ha, Nat.mod_eq_of_lt hb,
    Nat.mod_eq_of_lt this]

theorem bit_word : ∀ k : Fin 30, Scalar.shrsi 536870912#32 (Scf.iv 0#32 1#32 k.val) = BitVec.ofNat 32 (2 ^ (29 - k.val)) := by decide

/-- The word found for the value of a word below the one's is that word. -/
theorem words_at (v0 : Vec Ideal S1x2048x128 .f32) (v6 : Vec Ideal S1x128x2048 .f32) (j : S128x2048.Idx) (u : ℕ)
    (hu : u < 1065353216) (hx : (k0_pay9 v0 v6 : FVec Ideal S128x2048 .f32) j = ((wordVal u : ℝ) : EReal)) :
    words v0 v6 j = BitVec.ofNat 32 u := by
  have key : (Scf.fold (fun (k : Fin k0_t1_loop.trips) acc => k0_pay11 v0 v6 k acc) k0_pay10) j = BitVec.ofNat 32 u := by
    have h := fold_keeps (fun k acc => acc j = BitVec.ofNat 32 (2 ^ (30 - k) * (u / 2 ^ (30 - k)))) k0_t1_loop.trips
      (fun k acc => k0_pay11 v0 v6 k acc) k0_pay10 ?_ ?_
    · rw [h, show k0_t1_loop.trips = 30 by decide]; simp
    · show (0#32 : BitVec 32) = _
      rw [Nat.div_eq_of_lt (by omega)]; rfl
    · intro k acc hk
      have hk30 : k.val < 30 := lt_of_lt_of_eq k.isLt (by decide)
      have hw := bit_word ⟨k.val, hk30⟩
      obtain ⟨b, hb⟩ : ∃ b, 29 - k.val = b := ⟨_, rfl⟩
      have e1 : 30 - k.val = b + 1 := by omega
      have e2 : 30 - (k.val + 1) = b := by omega
      dsimp only at hk hw ⊢
      rw [e1] at hk
      rw [hb] at hw
      rw [e2]
      have hb29 : b ≤ 29 := by omega
      have hp : 2 ^ b ≤ 536870912 := (Nat.pow_le_pow_right (by omega) hb29).trans (by norm_num)
      have hq : 2 ^ (b + 1) * (u / 2 ^ (b + 1)) ≤ u := Nat.mul_div_le u _
      have hor : (2 ^ (b + 1) * (u / 2 ^ (b + 1)) ||| 2 ^ b) = 2 ^ (b + 1) * (u / 2 ^ (b + 1)) + 2 ^ b :=
        (Nat.two_pow_add_eq_or_of_lt (i := b + 1) (b := 2 ^ b) (Nat.pow_lt_pow_right (by omega) (by omega)) _).symm
      have hstep := bit_step u _ b rfl
      show (if FloatOps.cmpf .ole (FloatOps.ofBits .f32 (IntOp.ori (acc j) (Scalar.shrsi 536870912#32 (Scf.iv 0#32 1#32 k.val))) : Ideal .f32)
          ((k0_pay9 v0 v6 : FVec Ideal S128x2048 .f32) j) = 1#1 then IntOp.ori (acc j) (Scalar.shrsi 536870912#32 (Scf.iv 0#32 1#32 k.val)) else acc j) = _
      rw [hw, hk, ofNat_or (by omega) (by omega), ofBits_wordVal _ (by omega), hx, ← hstep]
      have hc : (FloatOps.cmpf (F := Ideal) (φ := .f32) .ole ((wordVal (2 ^ (b + 1) * (u / 2 ^ (b + 1)) ||| 2 ^ b) : ℝ) : EReal) ((wordVal u : ℝ) : EReal) = 1#1)
          ↔ (2 ^ (b + 1) * (u / 2 ^ (b + 1)) ||| 2 ^ b) ≤ u := by
        rw [← wordVal_strictMono.le_iff_le, ← EReal.coe_le_coe_iff]
        show BitVec.ofBool (decide _) = 1#1 ↔ _
        by_cases h : ((wordVal (2 ^ (b + 1) * (u / 2 ^ (b + 1)) ||| 2 ^ b) : ℝ) : EReal) ≤ ((wordVal u : ℝ) : EReal) <;> simp [h]
      by_cases h : (2 ^ (b + 1) * (u / 2 ^ (b + 1)) ||| 2 ^ b) ≤ u
      · rw [if_pos (hc.mpr h), if_pos h]
      · rw [if_neg (fun h' => h (hc.mp h')), if_neg h]
  show (if FloatOps.cmpf .oeq ((k0_pay9 v0 v6 : FVec Ideal S128x2048 .f32) j) (Scalar.ofBits .f32 0x00000000#32 : Ideal .f32) = 1#1
    then 0#32 else (Scf.fold (fun (k : Fin k0_t1_loop.trips) acc => k0_pay11 v0 v6 k acc) k0_pay10) j) = _
  rw [key, hx, zero_word]
  split
  · rename_i h
    have h0 : wordVal u = 0 := by
      have h' : BitVec.ofBool (decide (((wordVal u : ℝ) : EReal) = 0)) = 1#1 := h
      by_contra hne
      rw [decide_eq_false (by rwa [EReal.coe_eq_zero])] at h'
      exact absurd h' (by decide)
    have : u = 0 := wordVal_strictMono.injective (by rw [h0, wordVal_zero])
    rw [this]
  · rfl

/-! ## The threshold word -/

theorem oge_nat {a b : ℕ} : Scalar.cmpf (F := Ideal) (φ := .f32) .oge ((a : ℕ) : EReal) ((b : ℕ) : EReal) = BitVec.ofBool (decide (b ≤ a)) := by
  show BitVec.ofBool (decide (((b : ℕ) : EReal) ≤ ((a : ℕ) : EReal))) = _
  simp only [Nat.cast_le]

theorem olt_nat {a b : ℕ} : Scalar.cmpf (F := Ideal) (φ := .f32) .olt ((a : ℕ) : EReal) ((b : ℕ) : EReal) = BitVec.ofBool (decide (a < b)) := by
  show BitVec.ofBool (decide (((a : ℕ) : EReal) < ((b : ℕ) : EReal))) = _
  simp only [Nat.cast_lt]

/-- What the search keeps: the counts at its two ends, with `K` between them. -/
def Bracket (vb : IVec S128x2048 32) (K : ℕ) (st : St Ideal) : Prop :=
  Ends st ∧ st.1.toNat < st.2.1.toNat ∧ st.2.2.1 = ((geCard (nat32 vb) st.1.toNat : ℕ) : EReal)
    ∧ st.2.2.2 = ((geCard (nat32 vb) st.2.1.toNat : ℕ) : EReal)
    ∧ K ≤ geCard (nat32 vb) st.1.toNat ∧ geCard (nat32 vb) st.2.1.toNat < K

theorem select_ofBool {α : Type} (p : Prop) [Decidable p] (a b : α) : Scalar.select (BitVec.ofBool (decide p)) a b = if p then a else b := by
  unfold Scalar.select
  by_cases h : p <;> simp [h]

theorem step_bracket {vb : IVec S128x2048 32} {K : ℕ} (hb : ∀ i, (vb i).toNat < 2147483648) {st : St Ideal}
    (h : Bracket vb K st) (hg : goesOn st) : Bracket vb K (step ((K : ℕ) : EReal) vb st) := by
  have hsh := (step_shrinks (kf := (((K : ℕ) : EReal) : Ideal .f32)) (vb := vb) h.1 hg).1
  obtain ⟨he, hlt, h1, h2, hlo, hhi⟩ := h
  have hl := (goesOn_iff he).mp hg
  refine ⟨hsh, ?_⟩
  clear hsh
  obtain ⟨e1, e2⟩ := he
  unfold step
  have b1 := clip_bounds (Scalar.minsi (guess (((K : ℕ) : EReal) : Ideal .f32) st) (middle st.1 st.2.1)) e1 e2 hl
  have b2 := clip_bounds (Scalar.maxsi (guess (((K : ℕ) : EReal) : Ideal .f32) st) (middle st.1 st.2.1)) e1 e2 hl
  change _ ≤ (probe1 (((K : ℕ) : EReal) : Ideal .f32) st).toNat ∧ (probe1 (((K : ℕ) : EReal) : Ideal .f32) st).toNat + 1 ≤ _ at b1
  change _ ≤ (probe2 (((K : ℕ) : EReal) : Ideal .f32) st).toNat ∧ (probe2 (((K : ℕ) : EReal) : Ideal .f32) st).toNat + 1 ≤ _ at b2
  generalize probe1 (((K : ℕ) : EReal) : Ideal .f32) st = m1 at b1 ⊢
  generalize probe2 (((K : ℕ) : EReal) : Ideal .f32) st = m2 at b2 ⊢
  dsimp only
  rw [countGe_eq vb m1 hb (by omega), countGe_eq vb m2 hb (by omega), oge_nat, olt_nat]
  simp only [select_ofBool]
  by_cases hu : K ≤ geCard (nat32 vb) m2.toNat
  · simp only [if_pos hu]
    exact ⟨by omega, trivial, h2, hu, hhi⟩
  · simp only [if_neg hu]
    by_cases hd : geCard (nat32 vb) m1.toNat < K
    · simp only [if_pos hd]
      exact ⟨by omega, h1, trivial, hlo, hd⟩
    · simp only [if_neg hd]
      refine ⟨?_, trivial, trivial, by omega, by omega⟩
      by_contra hc
      have := geCard_anti (nat32 vb) (show m2.toNat ≤ m1.toNat by omega)
      omega

theorem iter_bracket {vb : IVec S128x2048 32} {K : ℕ} (hb : ∀ i, (vb i).toNat < 2147483648) :
    ∀ (n : ℕ) (st : St Ideal), Bracket vb K st → len st ≤ n →
      Bracket vb K (iter ((K : ℕ) : EReal) vb n st) ∧ ¬ goesOn (iter ((K : ℕ) : EReal) vb n st) := by
  intro n
  induction n with
  | zero => intro st h hl; exact ⟨h, not_goesOn h.1 (Nat.le_zero.mp hl)⟩
  | succ n ih =>
    intro st h hl
    rw [iter]
    by_cases hg : goesOn st
    · rw [if_pos hg]
      have hs := step_shrinks (kf := (((K : ℕ) : EReal) : Ideal .f32)) (vb := vb) h.1 hg
      exact ih _ (step_bracket hb h hg) (by omega)
    · rw [if_neg hg]; exact ⟨h, hg⟩

theorem geCard_zero (w : S128x2048.Idx → ℕ) : geCard w 0 = 262144 := by
  unfold geCard
  rw [Finset.filter_true_of_mem fun _ _ => Nat.zero_le _, Finset.card_univ]
  have : Fintype.card S128x2048.Idx = S128x2048.numel := (Fintype.card_congr S128x2048.rowMajor).trans (Fintype.card_fin _)
  rw [this]
  decide

theorem geCard_top {w : S128x2048.Idx → ℕ} {v : ℕ} (h : ∀ i, w i < v) : geCard w v = 0 := by
  unfold geCard
  rw [Finset.filter_false_of_mem fun i _ => by have := h i; omega, Finset.card_empty]

/-- The threshold the search finds. -/
theorem found_spec (vb : IVec S128x2048 32) (K : ℕ) (hb : ∀ i, (vb i).toNat < 1065353216) (hK : 0 < K) (hK' : K ≤ 262144) :
    ∃ v : ℕ, v < 1065353216 ∧ (found ((K : ℕ) : EReal) vb : St Ideal).1 = BitVec.ofNat 32 v
      ∧ (found ((K : ℕ) : EReal) vb : St Ideal).2.2.1 = ((geCard (nat32 vb) v : ℕ) : EReal)
      ∧ (found ((K : ℕ) : EReal) vb : St Ideal).2.2.2 = ((geCard (nat32 vb) (v + 1) : ℕ) : EReal)
      ∧ K ≤ geCard (nat32 vb) v ∧ geCard (nat32 vb) (v + 1) < K := by
  have hl : len (st0 : St Ideal) ≤ steps := by unfold steps; exact st0_ends.2
  have h0 : Bracket vb K (st0 : St Ideal) := by
    have n0 : (st0 : St Ideal).1.toNat = 0 := rfl
    have n1 : (st0 : St Ideal).2.1.toNat = 1065353216 := rfl
    refine ⟨st0_ends.1, by rw [n0, n1]; omega, ?_, ?_, ?_, ?_⟩
    · rw [n0, geCard_zero]; exact count_word
    · rw [n1, geCard_top (w := nat32 vb) (v := 1065353216) hb]; exact zero_word.trans Nat.cast_zero.symm
    · rw [n0, geCard_zero]; exact hK'
    · rw [n1, geCard_top (w := nat32 vb) (v := 1065353216) hb]; exact hK
  obtain ⟨h, hg⟩ := iter_bracket (fun i => by have := hb i; omega) steps st0 h0 hl
  unfold found
  generalize iter (F := Ideal) ((K : ℕ) : EReal) vb steps st0 = st at h hg ⊢
  obtain ⟨he, hlt, h1, h2, h3, h4⟩ := h
  have hle := mt (goesOn_iff he).mpr hg
  have e : st.2.1.toNat = st.1.toNat + 1 := by omega
  rw [e] at h2 h4
  have := he.2
  refine ⟨st.1.toNat, by omega, ?_, h1, h2, h3, h4⟩
  apply BitVec.eq_of_toNat_eq
  rw [BitVec.toNat_ofNat]; omega

theorem geCard_le (w : S128x2048.Idx → ℕ) (v : ℕ) : geCard w v ≤ 262144 := by
  rw [← geCard_zero w]
  exact geCard_anti w (Nat.zero_le v)

theorem rank_le (w : S128x2048.Idx → ℕ) (i : S128x2048.Idx) : rankOf w place i ≤ 262144 := by
  rw [← geCard_zero w]
  unfold rankOf geCard
  exact Finset.card_le_card fun j _ => by simp

/-- Sought above every count, the search stays at zero. -/
theorem found_none (vb : IVec S128x2048 32) (hb : ∀ i, (vb i).toNat < 1065353216) (kf : EReal) (hk : ∀ n : ℕ, n ≤ 262144 → (n : EReal) < kf) :
    (found (F := Ideal) kf vb).1 = 0#32 := by
  have key : ∀ (n : ℕ) (st : St Ideal), Ends st → st.1 = 0#32 → (iter (F := Ideal) kf vb n st).1 = 0#32 := by
    intro n
    induction n with
    | zero => intro st _ h; exact h
    | succ n ih =>
      intro st he h
      rw [iter]
      by_cases hg : goesOn st
      · rw [if_pos hg]
        refine ih _ (step_shrinks he hg).1 ?_
        have hl := (goesOn_iff he).mp hg
        obtain ⟨e1, e2⟩ := he
        have b1 : (probe1 (F := Ideal) kf st).toNat + 1 ≤ _ := (clip_bounds (Scalar.minsi (guess (F := Ideal) kf st) (middle st.1 st.2.1)) e1 e2 hl).2
        have b2 : (probe2 (F := Ideal) kf st).toNat + 1 ≤ _ := (clip_bounds (Scalar.maxsi (guess (F := Ideal) kf st) (middle st.1 st.2.1)) e1 e2 hl).2
        unfold step
        generalize probe1 (F := Ideal) kf st = m1 at b1 ⊢
        generalize probe2 (F := Ideal) kf st = m2 at b2 ⊢
        dsimp only
        have hb' : ∀ i, (vb i).toNat < 2147483648 := fun i => by have := hb i; omega
        rw [countGe_eq vb m1 hb' (by omega), countGe_eq vb m2 hb' (by omega)]
        have c1 : Scalar.cmpf (F := Ideal) (φ := .f32) .oge ((geCard (nat32 vb) m2.toNat : ℕ) : EReal) kf = BitVec.ofBool (decide (kf ≤ ((geCard (nat32 vb) m2.toNat : ℕ) : EReal))) := rfl
        have c2 : Scalar.cmpf (F := Ideal) (φ := .f32) .olt ((geCard (nat32 vb) m1.toNat : ℕ) : EReal) kf = BitVec.ofBool (decide (((geCard (nat32 vb) m1.toNat : ℕ) : EReal) < kf)) := rfl
        rw [c1, c2, select_ofBool, select_ofBool, if_neg (not_le.mpr (hk _ (geCard_le _ _))), if_pos (hk _ (geCard_le _ _)), h]
      · rw [if_neg hg]; exact h
  unfold found
  exact key steps st0 st0_ends.1 rfl

/-! ## The last place taken -/

/-- The halved word of a small word. -/
theorem half_toNat {x : BitVec 32} (hx : x.toNat < 2147483648) : (half x).toNat = x.toNat / 2 := by
  have hd : (Scalar.divsi x 2#32).toNat = x.toNat / 2 := StableHlo.Predicate.divsi_two _ x hx
  rcases Nat.eq_zero_or_pos x.toNat with h0 | hp
  · have : x = 0#32 := BitVec.eq_of_toNat_eq (by rw [h0]; rfl)
    subst this; decide
  · have h1 : Scalar.cmpi .sgt x 0#32 = 1#1 := (sgt_iff hx (by decide)).mpr hp
    have h2 : Scalar.cmpi .slt x 0#32 = 0#1 := by
      show IntOp.cmpi .slt x 0#32 = 0#1
      rw [WordCmp.cmpi_slt_eq, WordCmp.toInt_eq_toNat_of_lt_half hx, decide_eq_false (by rw [BitVec.toInt_zero]; omega)]; rfl
    unfold half
    rw [h1, h2, ← hd]
    have h3 : (Scalar.cmpi .ne (Scalar.subi (Scalar.extui (1#1 : BitVec 1)) (Scalar.extui (0#1 : BitVec 1)) : BitVec 32)
        (Scalar.subi (Scalar.extui (Scalar.cmpi .sgt 2#32 0#32)) (Scalar.extui (Scalar.cmpi .slt 2#32 0#32)))) = 0#1 := by decide
    rw [h3]
    generalize Scalar.cmpi .ne (Scalar.remsi x 2#32) 0#32 = y
    have h4 : Scalar.andi 0#1 y = 0#1 := by revert y; decide
    rw [h4]; rfl

theorem tieStep_keeps {vb : IVec S128x2048 32} {v : BitVec 32} {r x : ℕ} (hx : TiePlace (nat32 vb) place v.toNat r x)
    (k : ℕ) (hk : k < 18) (s : BitVec 32 × BitVec 32)
    (h : s.1.toNat ≤ x ∧ x ≤ s.2.toNat ∧ s.2.toNat < 262144 ∧ s.2.toNat - s.1.toNat < 2 ^ (18 - k)) :
    (tieStep (F := Ideal) ((r : ℕ) : EReal) vb v s).1.toNat ≤ x ∧ x ≤ (tieStep (F := Ideal) ((r : ℕ) : EReal) vb v s).2.toNat
      ∧ (tieStep (F := Ideal) ((r : ℕ) : EReal) vb v s).2.toNat < 262144
      ∧ (tieStep (F := Ideal) ((r : ℕ) : EReal) vb v s).2.toNat - (tieStep (F := Ideal) ((r : ℕ) : EReal) vb v s).1.toNat < 2 ^ (18 - (k + 1)) := by
  obtain ⟨h1, h2, h3, h4⟩ := h
  have hsum : (Scalar.addi s.1 s.2).toNat = s.1.toNat + s.2.toNat := by
    show (s.1 + s.2).toNat = _
    rw [BitVec.toNat_add]; omega
  have hm : (half (Scalar.addi s.1 s.2)).toNat = (s.1.toNat + s.2.toNat) / 2 := by
    rw [half_toNat (by omega), hsum]
  have hm1 : (Scalar.addi (half (Scalar.addi s.1 s.2)) 1#32).toNat = (s.1.toNat + s.2.toNat) / 2 + 1 := by
    show (half (Scalar.addi s.1 s.2) + 1#32).toNat = _
    rw [BitVec.toNat_add, hm]; simp only [BitVec.toNat_ofNat]; omega
  unfold tieStep
  dsimp only
  rw [countTie_eq vb v s.1 s.2 (by omega), oge_nat]
  simp only [select_ofBool]
  rw [hm]
  have hpow : 2 ^ (18 - k) = 2 * 2 ^ (18 - (k + 1)) := by
    rw [← pow_succ']; congr 1; omega
  rw [hpow] at h4
  generalize 2 ^ (18 - (k + 1)) = P at h4 ⊢
  obtain ⟨hx1, hx2⟩ := hx
  by_cases ht : r ≤ tieCard (nat32 vb) place v.toNat ((s.1.toNat + s.2.toNat) / 2)
  · simp only [if_pos ht, hm]
    refine ⟨h1, ?_, by omega, by omega⟩
    by_contra hc
    have := hx2 _ (show (s.1.toNat + s.2.toNat) / 2 < x by omega)
    omega
  · simp only [if_neg ht, hm1]
    have hgt : (s.1.toNat + s.2.toNat) / 2 < x := by
      by_contra hc
      have := tieCard_mono (nat32 vb) place v.toNat (show x ≤ (s.1.toNat + s.2.toNat) / 2 by omega)
      omega
    exact ⟨by omega, h2, h3, by omega⟩

/-- The last place the search finds. -/
theorem tie_spec (vb : IVec S128x2048 32) (v : BitVec 32) (r : ℕ) (h : r ≤ tieCard (nat32 vb) place v.toNat 262143) :
    TiePlace (nat32 vb) place v.toNat r (tie (F := Ideal) ((r : ℕ) : EReal) vb v).toNat
      ∧ (tie (F := Ideal) ((r : ℕ) : EReal) vb v).toNat < 262144 := by
  have hex : ∃ y, r ≤ tieCard (nat32 vb) place v.toNat y := ⟨_, h⟩
  have hx : TiePlace (nat32 vb) place v.toNat r (Nat.find hex) :=
    ⟨Nat.find_spec hex, fun y hy => not_le.mp (Nat.find_min hex hy)⟩
  have hle : Nat.find hex ≤ 262143 := Nat.find_min' hex h
  generalize Nat.find hex = x at hx hle
  have key := fold_keeps (fun k (s : BitVec 32 × BitVec 32) =>
      s.1.toNat ≤ x ∧ x ≤ s.2.toNat ∧ s.2.toNat < 262144 ∧ s.2.toNat - s.1.toNat < 2 ^ (18 - k)) k0_t3_loop.trips
    (fun _ s => tieStep (F := Ideal) ((r : ℕ) : EReal) vb v s) (0#32, 262143#32) ?_ ?_
  · have e : (tie (F := Ideal) ((r : ℕ) : EReal) vb v).toNat = x := by
      unfold tie
      obtain ⟨k1, k2, k3, k4⟩ := key
      rw [show 2 ^ (18 - k0_t3_loop.trips) = 1 by decide] at k4
      omega
    rw [e]
    exact ⟨hx, by omega⟩
  · refine ⟨?_, ?_, ?_, ?_⟩ <;> simp only [BitVec.toNat_ofNat] <;> omega
  · intro k s hs
    exact tieStep_keeps hx k.val (lt_of_lt_of_eq k.isLt (by decide)) s hs

end Cert.Csdi
-- ==== Proof.Value.RefRank.lean ====
/-
  The reference's ranks and its conditional mask, read at a position.
-/
module

public import proofs.«01_k».proof.Proof.Gen.ReferenceIdeal.Run
public import proofs.«01_k».proof.Proof.Value.Order
public import proofs.«01_k».proof.Proof.Value.Search
public import Idealize.ShloMosaic.Lib.Pointwise

@[expose] public section

set_option maxRecDepth 16384

noncomputable section

namespace Cert.Csdi

open Cert.ReferenceIdeal Cert.ReferenceIdeal.Gen
open Idealize.ShloMosaic

/-- The observation mask with the features before the times. -/
def rOm (a1 : FVec Ideal S64x2048x128 .f32) : FVec Ideal S64x128x2048 .f32 :=
  transpose S64x128x2048 [0, 2, 1] a1 transposes_S64x2048x128_S64x128x2048_0_2_1

/-- The random values at the observed positions, each sample's in one row. -/
def rFlat (a1 : FVec Ideal S64x2048x128 .f32) (a6 : FVec Ideal S64x128x2048 .f32) : FVec Ideal S64x262144 .f32 :=
  shapeCast S64x262144 (mulf a6 (rOm a1)) shapeCasts_S64x128x2048_S64x262144

/-- The positions in descending order of their values. -/
def rOrder (x : FVec Ideal S64x262144 .f32) : IVec S64x262144 32 :=
  (Host.sort2 S64x262144 1 comparator_f32_i32_d1 (Host.negf x) (iotaInDim S64x262144 32 1)).2

/-- The positions' ranks. -/
def rRanks (x : FVec Ideal S64x262144 .f32) : IVec S64x262144 32 :=
  (Host.sort2 S64x262144 1 comparator_i32_i32_d1 (rOrder x) (iotaInDim S64x262144 32 1)).2

/-- The number to mask, at every position. -/
def rMasks (a1 : FVec Ideal S64x2048x128 .f32) (a7 : FVec Ideal S64 .f32) : IVec S64x262144 32 :=
  broadcastInDim S64x262144 ![0, 1] bcast_S64x1_S64x262144_0_1 (fptosi 32 (broadcastInDim S64x1 ![0] bcast_S64_S64x1_0
    (Host.roundeven (mulf (Host.reduceAdd (shapeCast S64x262144 (rOm a1) shapeCasts_S64x128x2048_S64x262144)
      (constant S_ .f32 0x00000000#32) reducesTo_S64x262144_S64_d1 h_S_) a7))))

/-- The conditional mask. -/
def rCond (a1 : FVec Ideal S64x2048x128 .f32) (a6 : FVec Ideal S64x128x2048 .f32) (a7 : FVec Ideal S64 .f32) : FVec Ideal S64x128x2048 .f32 :=
  uitofp .f32 (shapeCast S64x128x2048 (cmpf .ogt (select (cmpi .slt (rRanks (rFlat a1 a6)) (rMasks a1 a7))
      (broadcastInDim S64x262144 ![] bcast_S_S64x262144 (id (constant S_ .f32 0xBF800000#32))) (rFlat a1 a6))
    (broadcastInDim S64x262144 ![] bcast_S_S64x262144 (constant S_ .f32 0x00000000#32))) shapeCasts_S64x262144_S64x128x2048)

/-- A position's place as an index of a row. -/
def flatPos (i : S128x2048.Idx) : Fin 262144 := ⟨place i, place_lt i⟩

theorem flatPos_bijective : Function.Bijective flatPos := by
  constructor
  · intro i i' h
    have h : 2048 * (i 0).val + (i 1).val = 2048 * (i' 0).val + (i' 1).val := congrArg Fin.val h
    have b : (i 1).val < 2048 := (i 1).isLt
    have b' : (i' 1).val < 2048 := (i' 1).isLt
    funext a
    match a with
    | ⟨0, _⟩ => exact Fin.ext (show (i 0).val = (i' 0).val by omega)
    | ⟨1, _⟩ => exact Fin.ext (show (i 1).val = (i' 1).val by omega)
  · intro p
    refine ⟨ix2 ⟨p.val / 2048, by omega⟩ ⟨p.val % 2048, by omega⟩, Fin.ext ?_⟩
    show 2048 * (p.val / 2048) + p.val % 2048 = p.val
    omega

theorem cast_flat {α : Type} (x : S64x128x2048.Idx → α) (b : Fin 64) (i : S128x2048.Idx) :
    shapeCast S64x262144 x shapeCasts_S64x128x2048_S64x262144 (ix2 b (flatPos i)) = x (ix3 b (i 0) (i 1)) := by
  show x (Shape.reshapeEquiv _ _) = _
  congr 1
  apply Shape.reshapeEquiv_eq_of_rowMajor
  rw [Shape.rowMajor_val_three, Shape.rowMajor_val_two]
  show (b.val * 128 + (i 0).val) * 2048 + (i 1).val = b.val * 262144 + (2048 * (i 0).val + (i 1).val)
  omega

theorem cast_back {α : Type} (x : S64x262144.Idx → α) (b : Fin 64) (i : S128x2048.Idx) :
    shapeCast S64x128x2048 x shapeCasts_S64x262144_S64x128x2048 (ix3 b (i 0) (i 1)) = x (ix2 b (flatPos i)) := by
  show x (Shape.reshapeEquiv _ _) = _
  congr 1
  apply Shape.reshapeEquiv_eq_of_rowMajor
  rw [Shape.rowMajor_val_three, Shape.rowMajor_val_two]
  show b.val * 262144 + (2048 * (i 0).val + (i 1).val) = (b.val * 128 + (i 0).val) * 2048 + (i 1).val
  omega

theorem rOm_at (a1 : FVec Ideal S64x2048x128 .f32) (b : Fin 64) (i : S128x2048.Idx) :
    rOm a1 (ix3 b (i 0) (i 1)) = a1 (ix3 b (i 1) (i 0)) := by
  unfold rOm
  refine transpose_apply _ _ _ _ _ fun c => ?_
  match c with
  | ⟨0, _⟩ => rfl
  | ⟨1, _⟩ => rfl
  | ⟨2, _⟩ => rfl

theorem rFlat_at (a1 : FVec Ideal S64x2048x128 .f32) (a6 : FVec Ideal S64x128x2048 .f32) (b : Fin 64) (i : S128x2048.Idx) :
    (rFlat a1 a6 (ix2 b (flatPos i)) : EReal) = a6 (ix3 b (i 0) (i 1)) * a1 (ix3 b (i 1) (i 0)) := by
  unfold rFlat
  rw [cast_flat]
  exact congrArg (fun z : EReal => (a6 (ix3 b (i 0) (i 1)) : EReal) * z) (rOm_at a1 b i)

/-- The reference orders two values by which is smaller. -/
theorem before_iff (l r : Ideal .f32 × BitVec 32) : (comparator_f32_i32_d1 l r == 1#1) = decide ((l.1 : EReal) < r.1) := by
  have canon (x : Ideal .f32) : Scalar.select (FloatOps.cmpf .une x x) (FloatOps.ofBits .f32 0x7FC00000#32)
      (Scalar.select (FloatOps.cmpf .oeq x (FloatOps.ofBits .f32 0x00000000#32)) (FloatOps.ofBits .f32 0x00000000#32) x) = x := by
    have h1 : FloatOps.cmpf (F := Ideal) (φ := .f32) .une x x = 0#1 := by
      show BitVec.ofBool (decide ((x : EReal) ≠ x)) = 0#1
      rw [decide_eq_false (fun h => h rfl)]; rfl
    rw [h1]
    show (if FloatOps.cmpf (F := Ideal) (φ := .f32) .oeq x (FloatOps.ofBits .f32 0x00000000#32) = 1#1 then (FloatOps.ofBits .f32 0x00000000#32 : Ideal .f32) else x) = x
    have h2 : FloatOps.cmpf (F := Ideal) (φ := .f32) .oeq x (FloatOps.ofBits .f32 0x00000000#32) = BitVec.ofBool (decide ((x : EReal) = FloatOps.ofBits (F := Ideal) .f32 0x00000000#32)) := rfl
    rw [h2]
    by_cases h : (x : EReal) = FloatOps.ofBits (F := Ideal) .f32 0x00000000#32
    · rw [decide_eq_true h]; exact h.symm
    · rw [decide_eq_false h]; rfl
  unfold comparator_f32_i32_d1
  dsimp only
  rw [canon l.1, canon r.1]
  show (BitVec.ofBool (decide ((l.1 : EReal) < r.1)) == 1#1) = _
  cases decide ((l.1 : EReal) < r.1) <;> rfl

theorem along_one (b : Fin 64) (p k : Fin 262144) : Shape.Idx.along (s := S64x262144) (ix2 b p) ⟨1, Nat.one_lt_two⟩ k = ix2 b k := by
  unfold Shape.Idx.along
  funext a
  match a with
  | ⟨0, _⟩ => rfl
  | ⟨1, _⟩ => rfl

/-- A sort's second result: the second operand at the position sorted there. -/
theorem sort2_at {α β : Type} (cmp : α × β → α × β → BitVec 1) (x : S64x262144.Idx → α) (y : S64x262144.Idx → β) (b : Fin 64) (p : Fin 262144) :
    (Host.sort2 S64x262144 1 cmp x y).2 (ix2 b p) = y (ix2 b
      (sortedFrom (fun k k' : Fin 262144 => cmp (x (ix2 b k), y (ix2 b k)) (x (ix2 b k'), y (ix2 b k')) == 1#1) p)) := by
  unfold Host.sort2
  rw [dif_pos (show 1 < S64x262144.rank by decide)]
  refine (congrArg y (along_one b p _)).trans (congrArg (fun q => y (ix2 b q)) (congrArg (fun f => sortedFrom f p) ?_))
  exact funext fun k => funext fun k' => congrArg₂ (fun u v => cmp (x u, y u) (x v, y v) == 1#1) (along_one b p k) (along_one b p k')

theorem neg_lt_neg_ereal (x y : EReal) : -x < -y ↔ y < x := EReal.neg_lt_neg_iff

/-- The order at a place: the position sorted there. -/
theorem rOrder_at (x : FVec Ideal S64x262144 .f32) (b : Fin 64) (p : Fin 262144) :
    rOrder x (ix2 b p) = BitVec.ofNat 32
      (sortedFrom (fun k k' : Fin 262144 => decide (-(x (ix2 b k) : EReal) < -(x (ix2 b k') : EReal))) p).val := by
  unfold rOrder
  rw [sort2_at]
  refine congrArg (fun f => BitVec.ofNat 32 (sortedFrom f p).val) ?_
  exact funext fun k => funext fun k' => before_iff _ _

theorem slt_small {a b : ℕ} (ha : a < 262144) (hb : b < 2147483648) :
    (IntOp.cmpi .slt (BitVec.ofNat 32 a) (BitVec.ofNat 32 b) == 1#1) = decide (a < b) := by
  have e1 : (BitVec.ofNat 32 a).toNat = a := by rw [BitVec.toNat_ofNat]; omega
  have e2 : (BitVec.ofNat 32 b).toNat = b := by rw [BitVec.toNat_ofNat]; omega
  rw [WordCmp.cmpi_slt_eq, WordCmp.toInt_eq_toNat_of_lt_half (x := BitVec.ofNat 32 a) (by omega),
    WordCmp.toInt_eq_toNat_of_lt_half (x := BitVec.ofNat 32 b) (by omega), e1, e2]
  by_cases h : a < b
  · rw [decide_eq_true h, decide_eq_true (by omega)]; rfl
  · rw [decide_eq_false h, decide_eq_false (by omega)]; rfl

/-- A position's rank: how many positions come before it. -/
theorem rRanks_at (x : FVec Ideal S64x262144 .f32) (b : Fin 64) (p : Fin 262144) :
    rRanks x (ix2 b p) = BitVec.ofNat 32 (Finset.univ.filter fun j : Fin 262144 =>
      (x (ix2 b p) : EReal) < x (ix2 b j) ∨ ((x (ix2 b j) : EReal) = x (ix2 b p) ∧ j < p)).card := by
  have hs := rank_of_sorts (fun k : Fin 262144 => -(x (ix2 b k) : EReal))
    (fun k k' => decide (-(x (ix2 b k) : EReal) < -(x (ix2 b k') : EReal))) (fun _ _ => rfl)
    (fun k k' => decide (sortedFrom (fun k k' : Fin 262144 => decide (-(x (ix2 b k) : EReal) < -(x (ix2 b k') : EReal))) k
      < sortedFrom (fun k k' : Fin 262144 => decide (-(x (ix2 b k) : EReal) < -(x (ix2 b k') : EReal))) k')) (fun _ _ => rfl) p
  have hc : (Finset.univ.filter fun j : Fin 262144 =>
      (x (ix2 b p) : EReal) < x (ix2 b j) ∨ ((x (ix2 b j) : EReal) = x (ix2 b p) ∧ j < p))
      = Finset.univ.filter fun j : Fin 262144 =>
        -(x (ix2 b j) : EReal) < -(x (ix2 b p) : EReal) ∨ (-(x (ix2 b j) : EReal) = -(x (ix2 b p) : EReal) ∧ j < p) := by
    refine Finset.filter_congr fun j _ => ?_
    rw [neg_lt_neg_ereal, neg_inj]
  rw [hc, ← hs]
  unfold rRanks
  rw [sort2_at]
  refine congrArg (fun f => BitVec.ofNat 32 (sortedFrom f p).val) ?_
  refine funext fun k => funext fun k' => ?_
  unfold comparator_i32_i32_d1
  dsimp only
  rw [rOrder_at, rOrder_at]
  exact slt_small (Fin.isLt _) (by have := Fin.isLt (sortedFrom (fun k k' : Fin 262144 => decide (-(x (ix2 b k) : EReal) < -(x (ix2 b k') : EReal))) k'); omega)

/-- Two properties that a one-to-one matching carries into each other hold equally often. -/
theorem card_of_bijective {ι κ : Type} [Fintype ι] [Fintype κ] {f : ι → κ} (hf : Function.Bijective f) {p : ι → Prop} {q : κ → Prop}
    [DecidablePred p] [DecidablePred q] (h : ∀ j, p j ↔ q (f j)) :
    (Finset.univ.filter p).card = (Finset.univ.filter q).card :=
  Finset.card_bijective f hf fun j => by simp only [Finset.mem_filter, Finset.mem_univ, true_and]; exact h j

/-- The ranks of values given by their words. -/
theorem rRanks_words (x : FVec Ideal S64x262144 .f32) (b : Fin 64) (w : S128x2048.Idx → ℕ)
    (hw : ∀ i, (x (ix2 b (flatPos i)) : EReal) = ((wordVal (w i) : ℝ) : EReal)) (i : S128x2048.Idx) :
    rRanks x (ix2 b (flatPos i)) = BitVec.ofNat 32 (rankOf w place i) := by
  rw [rRanks_at]
  have hj (j : S128x2048.Idx) : (w i < w j ∨ (w j = w i ∧ place j < place i))
      ↔ ((x (ix2 b (flatPos i)) : EReal) < x (ix2 b (flatPos j)) ∨ ((x (ix2 b (flatPos j)) : EReal) = x (ix2 b (flatPos i)) ∧ flatPos j < flatPos i)) := by
    rw [hw, hw, EReal.coe_lt_coe_iff, EReal.coe_eq_coe_iff, wordVal_strictMono.lt_iff_lt, wordVal_strictMono.injective.eq_iff]
    rfl
  exact congrArg (BitVec.ofNat 32) (card_of_bijective flatPos_bijective hj).symm

end Cert.Csdi
-- ==== Proof.Value.RefLoss.lean ====
/-
  The reference's result: the samples' losses as sums over the positions, and their mean.
-/
module

public import proofs.«01_k».proof.Proof.Value.RefRank

@[expose] public section

set_option maxRecDepth 16384

noncomputable section

namespace Cert.Csdi

open Cert.ReferenceIdeal Cert.ReferenceIdeal.Gen
open Idealize.ShloMosaic Idealize.ShloMosaic.TcCoe Idealize.SL.Sem

/-- The cumulative noise level of each sample's step. -/
def rAlpha (a4 : IVec S64 32) : FVec Ideal S64 .f32 :=
  Host.gather gather_S50_S64x1_S64_n_0_n_n_0_1_1 ((fun i => FloatOps.ofBits .f32 (lit0 (S50.rowMajor i))))
    (broadcastInDim S64x1 ![0] bcast_S64_S64x1_0 (select (cmpi .slt a4 (broadcastInDim S64 ![] bcast_S_S64 (constantI S_ 32 0#32)))
      (addi a4 (broadcastInDim S64 ![] bcast_S_S64 (constantI S_ 32 50#32))) a4))

/-- The data's weight in the noisy data, and the noise's. -/
def rSa (a4 : IVec S64 32) (b : Fin 64) : EReal := Host.sqrt (rAlpha a4) (ix1 b)
def rSb (a4 : IVec S64 32) (b : Fin 64) : EReal :=
  Host.sqrt (subf (broadcastInDim S64 ![] bcast_S_S64 (constant S_ .f32 0x3F800000#32)) (rAlpha a4)) (ix1 b)

/-- The data with the features before the times. -/
def rNoisy (a0 : FVec Ideal S64x2048x128 .f32) (a4 : IVec S64 32) (a5 : FVec Ideal S64x128x2048 .f32) : FVec Ideal S64x128x2048 .f32 :=
  addf (mulf (broadcastInDim S64x128x2048 ![0, 1, 2] bcast_S64x1x1_S64x128x2048_0_1_2
      (Host.sqrt (broadcastInDim S64x1x1 ![0] bcast_S64_S64x1x1_0 (rAlpha a4)))) (rOm a0))
    (mulf (broadcastInDim S64x128x2048 ![0, 1, 2] bcast_S64x1x1_S64x128x2048_0_1_2
      (Host.sqrt (subf (broadcastInDim S64x1x1 ![] bcast_S_S64x1x1 (constant S_ .f32 0x3F800000#32))
        (broadcastInDim S64x1x1 ![0] bcast_S64_S64x1x1_0 (rAlpha a4))))) a5)

/-- A weight of the score, for every sample. -/
def rW (a : FVec Ideal S128x2048 .f32) : FVec Ideal S64x128x2048 .f32 :=
  broadcastInDim S64x128x2048 ![0, 1, 2] bcast_S1x128x2048_S64x128x2048_0_1_2 (broadcastInDim S1x128x2048 ![1, 2] bcast_S128x2048_S1x128x2048_1_2 a)

/-- The residual at the target positions. -/
def rRes (a0 : FVec Ideal S64x2048x128 .f32) (a4 : IVec S64 32) (a5 : FVec Ideal S64x128x2048 .f32) (a8 a9 : FVec Ideal S128x2048 .f32)
    (cond tgt : FVec Ideal S64x128x2048 .f32) : FVec Ideal S64x128x2048 .f32 :=
  mulf (subf a5 (addf (mulf (rNoisy a0 a4 a5) (rW a8)) (mulf (mulf cond (rOm a0)) (rW a9)))) tgt

/-- The samples' losses. -/
def rLoss (res tgt : FVec Ideal S64x128x2048 .f32) : FVec Ideal S64 .f32 :=
  Host.divf (Host.reduceAdd (mulf res res) (constant S_ .f32 0x00000000#32) reducesTo_S64x128x2048_S64_d1_2 h_S_)
    (addf (Host.reduceAdd tgt (constant S_ .f32 0x00000000#32) reducesTo_S64x128x2048_S64_d1_2 h_S_)
      (broadcastInDim S64 ![] bcast_S_S64 (constant S_ .f32 0x358637BD#32)))

/-- Their mean. -/
def rMean (l : FVec Ideal S64 .f32) : FVec Ideal S1x1 .f32 :=
  shapeCast S1x1 (Host.divf (Host.reduceAdd l (constant S_ .f32 0x00000000#32) reducesTo_S64_S_d0 h_S_) (constant S_ .f32 0x42800000#32)) shapeCasts_S_S1x1

/-- The samples' losses of the arguments. -/
def rAll (a0 a1 : FVec Ideal S64x2048x128 .f32) (a4 : IVec S64 32) (a5 a6 : FVec Ideal S64x128x2048 .f32) (a7 : FVec Ideal S64 .f32)
    (a8 a9 : FVec Ideal S128x2048 .f32) : FVec Ideal S64 .f32 :=
  rLoss (rRes a0 a4 a5 a8 a9 (rCond a1 a6 a7) (subf (rOm a1) (rCond a1 a6 a7))) (subf (rOm a1) (rCond a1 a6 a7))

/-- The result of the reference is the mean of the samples' losses. -/
theorem res_eq (m : (ℓ : Loc nD τ sig) → Buf (Elt Ideal) ℓ) (c : Dev nD) :
    Cert.ReferenceIdeal.Value.res_main_v56 (F := Ideal) m c
      = rMean (rAll (m ((c.tc : Thread nD τ).loc main_arg0)) (m ((c.tc : Thread nD τ).loc main_arg1)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9))) := rfl

/-- A host sum of a sample's positions. -/
theorem sum12_at (x : FVec Ideal S64x128x2048 .f32) (b : Fin 64) :
    (Host.reduceAdd x (constant S_ .f32 0x00000000#32) reducesTo_S64x128x2048_S64_d1_2 h_S_ (ix1 b) : EReal)
      = ∑ i : S128x2048.Idx, (x (ix3 b (i 0) (i 1)) : EReal) := by
  refine (Ideal.hostReduceAdd_r3_a12 reducesTo_S64x128x2048_S64_d1_2 _ _ (ix1 b)).trans ?_
  have h0 : (constant (F := Ideal) S_ .f32 0x00000000#32 (Shape.Idx.first h_S_) : EReal) = 0 := zero_word
  refine (congrArg₂ (· + ·) h0 rfl).trans ((zero_add _).trans ?_)
  exact (sum_idx2 fun i : S128x2048.Idx => (x (ix3 b (i 0) (i 1)) : EReal)).symm

theorem sum0_at (l : FVec Ideal S64 .f32) (j : S_.Idx) :
    (Host.reduceAdd l (constant S_ .f32 0x00000000#32) reducesTo_S64_S_d0 h_S_ j : EReal) = ∑ b : Fin 64, (l (ix1 b) : EReal) := by
  refine (Ideal.hostReduceAdd_r1_a0 reducesTo_S64_S_d0 _ _ j).trans ?_
  have h0 : (constant (F := Ideal) S_ .f32 0x00000000#32 (Shape.Idx.first h_S_) : EReal) = 0 := zero_word
  exact (congrArg₂ (· + ·) h0 rfl).trans (zero_add _)

theorem rMean_at (l : FVec Ideal S64 .f32) (j : S1x1.Idx) :
    (rMean l j : EReal) = Ideal.div (∑ b : Fin 64, (l (ix1 b) : EReal)) (Ideal.ofBits .f32 0x42800000#32) := by
  unfold rMean shapeCast
  exact congrArg (fun z => Ideal.div z (Ideal.ofBits .f32 0x42800000#32)) (sum0_at l _)

/-- A value of each sample, carried to every position. -/
theorem bcast_sqrt (x : FVec Ideal S64 .f32) (y : FVec Ideal S64x1x1 .f32) (h : ∀ b : Fin 64, y (ix3 b 0 0) = x (ix1 b)) (b : Fin 64) (i : S128x2048.Idx) :
    (broadcastInDim S64x128x2048 ![0, 1, 2] bcast_S64x1x1_S64x128x2048_0_1_2 (Host.sqrt y) (ix3 b (i 0) (i 1)) : EReal) = Host.sqrt x (ix1 b) := by
  have e : (fun a => if h1 : S64x1x1.size a = 1 then ⟨0, by omega⟩
      else ⟨((ix3 b (i 0) (i 1) : S64x128x2048.Idx) ((![0, 1, 2] : Fin 3 → Fin 3) a)).val, by
        rcases (bcast_S64x1x1_S64x128x2048_0_1_2).2 a with h2 | h2
        · exact absurd h2 h1
        · rw [h2]; exact ((ix3 b (i 0) (i 1) : S64x128x2048.Idx) ((![0, 1, 2] : Fin 3 → Fin 3) a)).isLt⟩ : S64x1x1.Idx) = ix3 b 0 0 := by
    funext k
    match k with
    | ⟨0, _⟩ => rfl
    | ⟨1, _⟩ => rfl
    | ⟨2, _⟩ => rfl
  exact congrArg (FloatOps.hostUnary (F := Ideal) .sqrt) ((congrArg y e).trans (h b))

theorem one_axis (x : FVec Ideal S64 .f32) (b : Fin 64) : broadcastInDim S64x1x1 ![0] bcast_S64_S64x1x1_0 x (ix3 b 0 0) = x (ix1 b) := by
  unfold broadcastInDim
  congr 1
  funext k
  match k with
  | ⟨0, _⟩ => rfl

theorem rNoisy_at (a0 : FVec Ideal S64x2048x128 .f32) (a4 : IVec S64 32) (a5 : FVec Ideal S64x128x2048 .f32) (b : Fin 64) (i : S128x2048.Idx) :
    (rNoisy a0 a4 a5 (ix3 b (i 0) (i 1)) : EReal)
      = rSa a4 b * a0 (ix3 b (i 1) (i 0)) + rSb a4 b * a5 (ix3 b (i 0) (i 1)) := by
  unfold rNoisy rSa rSb
  generalize rAlpha a4 = al
  refine congrArg₂ (fun p q : EReal => p + q) (congrArg₂ (fun p q : EReal => p * q) (bcast_sqrt _ _ (one_axis al) b i) (rOm_at a0 b i))
    (congrArg (fun p : EReal => p * (a5 (ix3 b (i 0) (i 1)) : EReal)) (bcast_sqrt _ _ (fun b => ?_) b i))
  exact congrArg (fun z : EReal => (constant (F := Ideal) S_ .f32 0x3F800000#32 (Shape.Idx.first h_S_) : EReal) - z) (one_axis al b)

theorem rW_at (a : FVec Ideal S128x2048 .f32) (b : Fin 64) (i : S128x2048.Idx) : rW a (ix3 b (i 0) (i 1)) = a i := by
  unfold rW
  show a _ = a i
  congr 1
  funext k
  match k with
  | ⟨0, _⟩ => rfl
  | ⟨1, _⟩ => rfl

/-- A sample's loss as sums over the positions. -/
theorem rAll_at (a0 a1 : FVec Ideal S64x2048x128 .f32) (a4 : IVec S64 32) (a5 a6 : FVec Ideal S64x128x2048 .f32) (a7 : FVec Ideal S64 .f32)
    (a8 a9 : FVec Ideal S128x2048 .f32) (b : Fin 64) (cnd tgt res : S128x2048.Idx → EReal)
    (hc : ∀ i, (rCond a1 a6 a7 (ix3 b (i 0) (i 1)) : EReal) = cnd i)
    (ht : ∀ i, (a1 (ix3 b (i 1) (i 0)) : EReal) - cnd i = tgt i)
    (hr : ∀ i, ((a5 (ix3 b (i 0) (i 1)) : EReal) - ((rSa a4 b * a0 (ix3 b (i 1) (i 0)) + rSb a4 b * a5 (ix3 b (i 0) (i 1))) * a8 i
      + cnd i * a0 (ix3 b (i 1) (i 0)) * a9 i)) * tgt i = res i) :
    (rAll a0 a1 a4 a5 a6 a7 a8 a9 (ix1 b) : EReal)
      = Ideal.div (∑ i, res i * res i) ((∑ i, tgt i) + Ideal.ofBits .f32 0x358637BD#32) := by
  have ht' : ∀ i : S128x2048.Idx, (subf (rOm a1) (rCond a1 a6 a7) (ix3 b (i 0) (i 1)) : EReal) = tgt i := fun i => by
    rw [← ht, ← hc]
    exact congrArg (fun z : EReal => z - (rCond a1 a6 a7 (ix3 b (i 0) (i 1)) : EReal)) (rOm_at a1 b i)
  have hr' : ∀ i : S128x2048.Idx, (rRes a0 a4 a5 a8 a9 (rCond a1 a6 a7) (subf (rOm a1) (rCond a1 a6 a7)) (ix3 b (i 0) (i 1)) : EReal) = res i := fun i => by
    rw [← hr, ← ht', ← hc, ← rW_at a8 b i, ← rW_at a9 b i]
    exact congrArg₂ (fun y z : EReal => ((a5 (ix3 b (i 0) (i 1)) : EReal) - (y * rW a8 (ix3 b (i 0) (i 1))
      + rCond a1 a6 a7 (ix3 b (i 0) (i 1)) * z * rW a9 (ix3 b (i 0) (i 1)))) * subf (rOm a1) (rCond a1 a6 a7) (ix3 b (i 0) (i 1)))
      (rNoisy_at a0 a4 a5 b i) (rOm_at a0 b i)
  unfold rAll rLoss
  show Ideal.div (Host.reduceAdd (F := Ideal) _ _ _ _ (ix1 b)) (Host.reduceAdd (F := Ideal) _ _ _ _ (ix1 b) + Ideal.ofBits .f32 0x358637BD#32) = _
  rw [sum12_at, sum12_at, Finset.sum_congr rfl fun i _ => ht' i]
  congr 1
  exact Finset.sum_congr rfl fun i _ => congrArg₂ (· * ·) (hr' i) (hr' i)

end Cert.Csdi
-- ==== Proof.Value.Round.lean ====
/-
  The number to mask: the kernel's rounding by floors is the rounding to nearest, ties to even.
-/
module

public import proofs.«01_k».proof.Proof.Value.Sums
public import Mathlib.Tactic.Linarith
public import Mathlib.Tactic.Push
public import Mathlib.Algebra.Order.Floor.Ring

@[expose] public section

set_option maxRecDepth 16384

noncomputable section

namespace Cert.Csdi

open Cert.KernelIdeal Cert.KernelIdeal.Gen
open Idealize.ShloMosaic

theorem half_word : (Scalar.ofBits .f32 0x3F000000#32 : Ideal .f32) = ((1 / 2 : ℝ) : EReal) := by
  refine (ofBits_wordVal 1056964608 (by omega)).trans ?_
  have e : wordVal 1056964608 = 1 / 2 := by unfold wordVal; norm_num
  rw [e]

theorem two_word : (Scalar.ofBits .f32 0x40000000#32 : Ideal .f32) = ((2 : ℝ) : EReal) := by
  refine (ofBits_wordVal 1073741824 (by omega)).trans ?_
  have e : wordVal 1073741824 = 2 := by unfold wordVal; norm_num
  rw [e]

/-- An integer halved, floored and doubled is itself exactly when it is even. -/
theorem floor_half_even (f : ℤ) : ((⌊(f : ℝ) * (1 / 2)⌋ : ℝ) * 2 = f) ↔ Even f := by
  have e : ⌊(f : ℝ) * (1 / 2)⌋ = f / 2 := by
    rw [Int.floor_eq_iff]
    have h1 := Int.mul_ediv_add_emod f 2
    have h2 := Int.emod_nonneg f (show (2 : ℤ) ≠ 0 by omega)
    have h3 := Int.emod_lt_of_pos f (show (0 : ℤ) < 2 by omega)
    have h1' : (2 : ℝ) * ((f / 2 : ℤ) : ℝ) + ((f % 2 : ℤ) : ℝ) = f := by exact_mod_cast h1
    have h2' : (0 : ℝ) ≤ ((f % 2 : ℤ) : ℝ) := by exact_mod_cast h2
    have h3' : ((f % 2 : ℤ) : ℝ) ≤ 1 := by
      have : f % 2 ≤ 1 := by omega
      exact_mod_cast this
    constructor <;> linarith
  rw [e]
  have : ((f / 2 : ℤ) : ℝ) * 2 = f ↔ (f / 2) * 2 = f := by
    constructor
    · intro h; exact_mod_cast h
    · intro h; exact_mod_cast h
  rw [this, Int.even_iff]
  omega

/-- The kernel's rounding of a real. -/
theorem round_eq (y : ℝ) :
    (k0_pay17 (Ideal.liftRound Int.floor (y : EReal)) ((y : EReal) - Ideal.liftRound Int.floor (y : EReal))
        ((Ideal.liftRound Int.floor (y : EReal) : EReal) * (Scalar.ofBits .f32 0x3F000000#32 : Ideal .f32)) : Ideal .f32)
      = ((Ideal.roundHalfEven y : ℝ) : EReal) := by
  rw [half_word, Ideal.liftRound_coe, ← EReal.coe_sub, ← EReal.coe_mul]
  show ((⌊y⌋ : ℝ) : EReal) + Scalar.select (IntOp.ori
      (BitVec.ofBool (decide ((Scalar.ofBits .f32 0x3F000000#32 : Ideal .f32) < ((y - ⌊y⌋ : ℝ) : EReal))))
      (IntOp.andi (BitVec.ofBool (decide (((y - ⌊y⌋ : ℝ) : EReal) = (Scalar.ofBits .f32 0x3F000000#32 : Ideal .f32))))
        (BitVec.ofBool (decide (((⌊(⌊y⌋ : ℝ) * (1 / 2)⌋ : ℝ) : EReal) * (Scalar.ofBits .f32 0x40000000#32 : Ideal .f32) ≠ ((⌊y⌋ : ℝ) : EReal))))))
      (Scalar.ofBits .f32 0x3F800000#32 : Ideal .f32) (Scalar.ofBits .f32 0x00000000#32 : Ideal .f32) = _
  rw [half_word, two_word, one_word, zero_word, ← EReal.coe_mul]
  have c1 : (((1 / 2 : ℝ) : EReal) < ((y - ⌊y⌋ : ℝ) : EReal)) ↔ 1 / 2 < y - ⌊y⌋ := EReal.coe_lt_coe_iff
  have c2 : (((y - ⌊y⌋ : ℝ) : EReal) = ((1 / 2 : ℝ) : EReal)) ↔ y - ⌊y⌋ = 1 / 2 := EReal.coe_eq_coe_iff
  have c3 : ((((⌊(⌊y⌋ : ℝ) * (1 / 2)⌋ : ℝ) * 2 : ℝ) : EReal) ≠ ((⌊y⌋ : ℝ) : EReal)) ↔ ¬ Even ⌊y⌋ := by
    rw [Ne, EReal.coe_eq_coe_iff, floor_half_even]
  simp only [c1, c2, c3]
  unfold Ideal.roundHalfEven
  dsimp only
  generalize ⌊y⌋ = f
  have one : (((f + 1 : ℤ) : ℝ) : EReal) = ((f : ℝ) : EReal) + 1 := by
    push_cast; rfl
  by_cases h1 : y - f < 1 / 2
  · rw [if_pos h1, decide_eq_false (show ¬ 1 / 2 < y - f by linarith), decide_eq_false (show ¬ y - (f : ℝ) = 1 / 2 by intro h; linarith)]
    generalize BitVec.ofBool (decide (¬ Even f)) = b
    have : IntOp.ori (BitVec.ofBool false) (IntOp.andi (BitVec.ofBool false) b) = 0#1 := by revert b; decide
    rw [this]
    exact add_zero _
  · rw [if_neg h1]
    by_cases h2 : 1 / 2 < y - f
    · rw [if_pos h2, decide_eq_true h2, one]
      generalize IntOp.andi _ _ = b
      have : IntOp.ori (BitVec.ofBool true) b = 1#1 := by revert b; decide
      rw [this]
      rfl
    · rw [if_neg h2, decide_eq_false h2, decide_eq_true (show y - (f : ℝ) = 1 / 2 by linarith)]
      by_cases h3 : Even f
      · rw [if_pos h3, decide_eq_false (by simpa using h3)]
        exact add_zero _
      · rw [if_neg h3, decide_eq_true h3, one]
        rfl

theorem pay13_eq (v0 : Vec Ideal S1x2048x128 .f32) (ratio : Ideal .f32) :
    (k0_pay13 v0 ratio : Ideal .f32) = (∑ i : S1x2048x128.Idx, (v0 i : EReal)) * (ratio : EReal) := by
  have e : extractAt ![0, 0, 0] (shapeCast S1x1x1 (multiReduction (F := Ideal) .add [1, 2] S1
      (shapeCast S1x2048x128 (shapeCast S2048x128 v0 shapeCasts_S1x2048x128_S2048x128) shapeCasts_S2048x128_S1x2048x128)
      0x00000000#32 reduces_S1x2048x128_S1 (.inl rfl) rfl) shapeCasts_S1_S1x1x1) inpos_S1x1x1_p0_0_0
      = ∑ i : S1x2048x128.Idx, (v0 i : EReal) := by
    unfold extractAt
    exact (Ideal.multiReduction_add_total _ _ _ (by decide) _ _ _).trans ((sum_cast _ _).trans (sum_cast _ v0))
  rw [← e]
  rfl

/-- The number to mask is the rounded product of the number of observations and the ratio, an infinite one too. -/
theorem kkOf_eq (v0 : Vec Ideal S1x2048x128 .f32) (ratio : Ideal .f32) (x : EReal)
    (h : (∑ i : S1x2048x128.Idx, (v0 i : EReal)) * (ratio : EReal) = x) :
    kkOf v0 ratio = Ideal.liftRound Ideal.roundHalfEven x := by
  have e : kkOf v0 ratio = (k0_pay17 (Ideal.liftRound Int.floor x) (x - Ideal.liftRound Int.floor x)
      ((Ideal.liftRound Int.floor x : EReal) * (Scalar.ofBits .f32 0x3F000000#32 : Ideal .f32)) : Ideal .f32) := by
    rw [← h, ← pay13_eq]; rfl
  rw [e]
  induction x with
  | bot => exact EReal.bot_add _
  | coe y => exact round_eq y
  | top =>
    rw [half_word, Ideal.liftRound_top, Ideal.liftRound_top]
    show (⊤ : EReal) + Scalar.select _ (Scalar.ofBits .f32 0x3F800000#32 : Ideal .f32) (Scalar.ofBits .f32 0x00000000#32 : Ideal .f32) = ⊤
    rw [one_word, zero_word]
    unfold Scalar.select
    split
    · exact EReal.top_add_coe 1
    · exact EReal.top_add_coe 0

end Cert.Csdi
-- ==== Proof.Value.RefCond.lean ====
/-
  The reference's conditional mask at a position, from the words of the values and the number to mask.
-/
module

public import proofs.«01_k».proof.Proof.Value.RefRank
public import proofs.«01_k».proof.Proof.Value.Round

@[expose] public section

set_option maxRecDepth 16384

noncomputable section

namespace Cert.Csdi

open Cert.ReferenceIdeal Cert.ReferenceIdeal.Gen
open Idealize.ShloMosaic

/-- The number of observed positions of a sample. -/
def seen (a1 : FVec Ideal S64x2048x128 .f32) (b : Fin 64) : EReal := ∑ i : S128x2048.Idx, (a1 (ix3 b (i 1) (i 0)) : EReal)

theorem count_at (a1 : FVec Ideal S64x2048x128 .f32) (b : Fin 64) :
    (Host.reduceAdd (shapeCast S64x262144 (rOm a1) shapeCasts_S64x128x2048_S64x262144)
      (constant S_ .f32 0x00000000#32) reducesTo_S64x262144_S64_d1 h_S_ (ix1 b) : EReal) = seen a1 b := by
  refine (Ideal.hostReduceAdd_r2_a1 reducesTo_S64x262144_S64_d1 _ _ (ix1 b)).trans ?_
  have h0 : (constant (F := Ideal) S_ .f32 0x00000000#32 (Shape.Idx.first h_S_) : EReal) = 0 := zero_word
  refine (congrArg₂ (· + ·) h0 ?_).trans (zero_add _)
  unfold seen
  rw [← Function.Bijective.sum_comp flatPos_bijective]
  refine Finset.sum_congr rfl fun i _ => ?_
  exact (cast_flat _ b i).trans (rOm_at a1 b i)

theorem rMasks_at (a1 : FVec Ideal S64x2048x128 .f32) (a7 : FVec Ideal S64 .f32) (b : Fin 64) (p : Fin 262144) :
    rMasks a1 a7 (ix2 b p) = Ideal.fptosi 32 (Ideal.liftRound Ideal.roundHalfEven (seen a1 b * (a7 (ix1 b) : EReal))) := by
  rw [← count_at]
  unfold rMasks
  pointwise []
  rfl

/-- A word of an integer within the signed range reads as that integer. -/
theorem toInt_word (z : ℤ) (h0 : -2147483648 ≤ z) (h1 : z < 2147483648) : (BitVec.ofInt 32 z).toInt = z := by
  rw [BitVec.toInt_ofInt]
  apply Int.bmod_eq_of_le <;> omega

/-- A rank is below the word of the number to mask exactly if it is below that number. -/
theorem below_masks (x : EReal) (r : ℕ) (hr : r ≤ 262144) :
    IntOp.cmpi .slt (BitVec.ofNat 32 r) (Ideal.fptosi 32 (Ideal.liftRound Ideal.roundHalfEven x))
      = BitVec.ofBool (decide ((r : EReal) < Ideal.liftRound Ideal.roundHalfEven x)) := by
  have e1 : (BitVec.ofNat 32 r).toNat = r := by rw [BitVec.toNat_ofNat]; omega
  rw [WordCmp.cmpi_slt_eq, WordCmp.toInt_eq_toNat_of_lt_half (x := BitVec.ofNat 32 r) (by omega), e1]
  unfold Ideal.fptosi
  refine congrArg BitVec.ofBool (decide_eq_decide.mpr ?_)
  induction x with
  | bot =>
    rw [Ideal.liftRound_bot, Ideal.toIntClamped_bot, toInt_word _ (by norm_num) (by norm_num)]
    exact iff_of_false (by omega) not_lt_bot
  | top =>
    rw [Ideal.liftRound_top, Ideal.toIntClamped_top, toInt_word _ (by norm_num) (by norm_num)]
    exact iff_of_true (by omega) (EReal.coe_lt_top (r : ℝ))
  | coe y =>
    rw [Ideal.liftRound_coe, Ideal.toIntClamped_coe]
    generalize Ideal.roundHalfEven y = z
    have ez : (if (0 : ℝ) ≤ (z : ℝ) then ⌊(z : ℝ)⌋ else ⌈(z : ℝ)⌉) = z := by rw [Int.floor_intCast, Int.ceil_intCast, ite_self]
    rw [ez, toInt_word _ (by omega) (by omega)]
    have ec : ((r : EReal) < ((z : ℝ) : EReal)) ↔ (r : ℤ) < z := by
      have : (r : EReal) = (((r : ℤ) : ℝ) : EReal) := rfl
      rw [this, EReal.coe_lt_coe_iff, Int.cast_lt]
    rw [ec]
    omega

theorem neg_one_word : (FloatOps.ofBits .f32 0xBF800000#32 : Ideal .f32) = ((-1 : ℝ) : EReal) := by
  show Ideal.ofBits .f32 0xBF800000#32 = _
  simp [Ideal.ofBits, Ideal.ieee]
  rw [← EReal.coe_mul]
  norm_num

/-- The conditional mask at a position: one where the value is positive and the rank not below the number to mask. -/
theorem rCond_at (a1 : FVec Ideal S64x2048x128 .f32) (a6 : FVec Ideal S64x128x2048 .f32) (a7 : FVec Ideal S64 .f32) (b : Fin 64)
    (w : S128x2048.Idx → ℕ) (hw : ∀ i, (a6 (ix3 b (i 0) (i 1)) : EReal) * a1 (ix3 b (i 1) (i 0)) = ((wordVal (w i) : ℝ) : EReal))
    (kk : EReal) (hk : kk = Ideal.liftRound Ideal.roundHalfEven (seen a1 b * (a7 (ix1 b) : EReal))) (i : S128x2048.Idx) :
    (rCond a1 a6 a7 (ix3 b (i 0) (i 1)) : EReal) = if w i = 0 ∨ ((rankOf w place i : ℕ) : EReal) < kk then 0 else 1 := by
  have hx : ∀ j, (rFlat a1 a6 (ix2 b (flatPos j)) : EReal) = ((wordVal (w j) : ℝ) : EReal) := fun j => (rFlat_at a1 a6 b j).trans (hw j)
  have e : (rCond a1 a6 a7 (ix3 b (i 0) (i 1)) : EReal) = FloatOps.uitofp (F := Ideal) .f32 (FloatOps.cmpf (F := Ideal) (φ := .f32) .ogt
      (Scalar.select (IntOp.cmpi .slt (rRanks (rFlat a1 a6) (ix2 b (flatPos i))) (rMasks a1 a7 (ix2 b (flatPos i))))
        (FloatOps.ofBits .f32 0xBF800000#32 : Ideal .f32) (rFlat a1 a6 (ix2 b (flatPos i))))
      (FloatOps.ofBits .f32 0x00000000#32)) := by
    unfold rCond
    exact congrArg (FloatOps.uitofp (F := Ideal) .f32) (cast_back _ b i)
  have hr := rank_le w i
  rw [e, rRanks_words _ b w hx, rMasks_at a1 a7 b (flatPos i), hx, neg_one_word]
  have h0 : (FloatOps.ofBits .f32 0x00000000#32 : Ideal .f32) = ((wordVal 0 : ℝ) : EReal) := by
    rw [wordVal_zero]; exact zero_word
  rw [h0]
  have hs := below_masks (seen a1 b * (a7 (ix1 b) : EReal)) _ hr
  rw [← hk] at hs ⊢
  rw [hs, select_ofBool]
  by_cases h1 : ((rankOf w place i : ℕ) : EReal) < kk
  · rw [if_pos h1, if_pos (Or.inr h1)]
    have : FloatOps.cmpf (F := Ideal) (φ := .f32) .ogt ((-1 : ℝ) : EReal) ((wordVal 0 : ℝ) : EReal) = BitVec.ofBool (decide (((wordVal 0 : ℝ) : EReal) < ((-1 : ℝ) : EReal))) := rfl
    rw [this, decide_eq_false (by rw [EReal.coe_lt_coe_iff, wordVal_zero]; norm_num)]
    show (((BitVec.ofBool false).toNat : ℝ) : EReal) = 0
    simp
  · rw [if_neg h1]
    have : FloatOps.cmpf (F := Ideal) (φ := .f32) .ogt ((wordVal (w i) : ℝ) : EReal) ((wordVal 0 : ℝ) : EReal) = BitVec.ofBool (decide (((wordVal 0 : ℝ) : EReal) < ((wordVal (w i) : ℝ) : EReal))) := rfl
    rw [this]
    simp only [EReal.coe_lt_coe_iff, wordVal_strictMono.lt_iff_lt]
    by_cases h2 : w i = 0
    · rw [decide_eq_false (by omega), if_pos (Or.inl h2)]
      show (((BitVec.ofBool false).toNat : ℝ) : EReal) = 0
      simp
    · rw [decide_eq_true (by omega), if_neg (not_or.mpr ⟨h2, h1⟩)]
      show (((BitVec.ofBool true).toNat : ℝ) : EReal) = 1
      simp

end Cert.Csdi
-- ==== Proof.Value.Mask.lean ====
/-
  The positions the kernel evaluates: those of value zero and those whose rank in the descending order is below the
  number to mask.
-/
module

public import proofs.«01_k».proof.Proof.Value.Search

@[expose] public section

set_option maxRecDepth 16384

noncomputable section

namespace Cert.Csdi

open Cert.KernelIdeal Cert.KernelIdeal.Gen
open Idealize.ShloMosaic

/-- The bit saying that a position is chosen or of value zero. -/
def keptBit (vb : IVec S128x2048 32) (v thr : BitVec 32) (i : S128x2048.Idx) : BitVec 1 :=
  IntOp.ori (IntOp.ori (IntOp.cmpi .sgt (vb i) v)
      (IntOp.andi (IntOp.cmpi .eq (vb i) v) (IntOp.cmpi .sle (BitVec.ofNat 32 (place i)) thr)))
    (IntOp.cmpi .eq (vb i) 0#32)

theorem ori_eq_one {c d : BitVec 1} : IntOp.ori c d = 1#1 ↔ c = 1#1 ∨ d = 1#1 := by revert c d; decide

theorem keptBit_iff (vb : IVec S128x2048 32) (v thr : BitVec 32) (i : S128x2048.Idx) :
    keptBit vb v thr i = 1#1 ↔ (IntOp.cmpi .sgt (vb i) v = 1#1
      ∨ (nat32 vb i = v.toNat ∧ IntOp.cmpi .sle (BitVec.ofNat 32 (place i)) thr = 1#1)) ∨ nat32 vb i = 0 := by
  unfold keptBit
  rw [ori_eq_one, ori_eq_one, IntOp.andi_eq_one, eq_iff, eq_iff]
  rfl

theorem sub_nat {a b : ℕ} (h : b ≤ a) : Scalar.subf (F := Ideal) (φ := .f32) ((a : ℕ) : EReal) ((b : ℕ) : EReal) = ((a - b : ℕ) : EReal) := by
  show (((a : ℕ) : EReal) - ((b : ℕ) : EReal)) = _
  have e : ((a - b : ℕ) : EReal) = (((a : ℝ) - (b : ℝ) : ℝ) : EReal) := by
    rw [← Nat.cast_sub h]; rfl
  rw [e, EReal.coe_sub]; rfl

theorem ogt_zero (x : EReal) : Scalar.cmpf (F := Ideal) (φ := .f32) .ogt x (Scalar.ofBits .f32 0x00000000#32) = BitVec.ofBool (decide (0 < x)) := by
  rw [zero_word]; rfl

theorem ogt_nat_zero {a : ℕ} : Scalar.cmpf (F := Ideal) (φ := .f32) .ogt ((a : ℕ) : EReal) (Scalar.ofBits .f32 0x00000000#32) = BitVec.ofBool (decide (0 < a)) := by
  rw [zero_word]
  show BitVec.ofBool (decide ((0 : EReal) < ((a : ℕ) : EReal))) = _
  have : ((0 : EReal) < ((a : ℕ) : EReal)) ↔ 0 < a := by
    have h := Nat.cast_lt (α := EReal) (m := 0) (n := a)
    rw [Nat.cast_zero] at h
    exact h
  simp only [this]

/-- The words equal to the threshold, counted over all places. -/
theorem tieCard_all (w : S128x2048.Idx → ℕ) (v : ℕ) : geCard w v = geCard w (v + 1) + tieCard w place v 262143 := by
  unfold geCard tieCard
  rw [← Finset.card_union_of_disjoint]
  · congr 1
    ext j
    have := place_lt j
    simp only [Finset.mem_filter, Finset.mem_univ, true_and, Finset.mem_union]
    omega
  · rw [Finset.disjoint_filter]
    intro j _ h1 h2; omega

/-- Where nothing is to be masked only the positions of value zero are kept, -/
theorem kept_none (vb : IVec S128x2048 32) (hb : ∀ i, (vb i).toNat < 1065353216) (kk : EReal) (h : kk ≤ 0) (st : St Ideal) (thr : BitVec 32)
    (i : S128x2048.Idx) : keptBit vb (cutOf (F := Ideal) kk st) thr i = 1#1 ↔ nat32 vb i = 0 := by
  have hbi : nat32 vb i < 1065353216 := hb i
  have hc : cutOf (F := Ideal) kk st = 2130706432#32 := by
    unfold cutOf; rw [ogt_zero, select_ofBool, if_neg (not_lt.mpr h)]
  rw [keptBit_iff, hc]
  have e1 : ¬ IntOp.cmpi .sgt (vb i) 2130706432#32 = 1#1 := by
    rw [sgt_iff (by unfold nat32 at hbi; omega) (by decide)]
    unfold nat32 at hbi
    simp only [BitVec.toNat_ofNat]; omega
  have e2 : ¬ nat32 vb i = (2130706432#32 : BitVec 32).toNat := by
    simp only [BitVec.toNat_ofNat]; omega
  exact ⟨fun h => h.resolve_left (fun h => h.elim e1 fun h => e2 h.1), Or.inr⟩

/-- and where more than all are to be masked every position is. -/
theorem kept_all (vb : IVec S128x2048 32) (hb : ∀ i, (vb i).toNat < 1065353216) (kk : EReal) (h : 0 < kk) (st : St Ideal) (hst : st.1 = 0#32)
    (thr : BitVec 32) (i : S128x2048.Idx) : keptBit vb (cutOf (F := Ideal) kk st) thr i = 1#1 := by
  have hbi := hb i
  have hc : cutOf (F := Ideal) kk st = 0#32 := by
    unfold cutOf; rw [ogt_zero, select_ofBool, if_pos h, hst]
  rw [keptBit_iff, hc, sgt_iff (by omega) (by decide)]
  rcases Nat.eq_zero_or_pos (nat32 vb i) with h0 | h0
  · exact Or.inr h0
  · exact Or.inl (Or.inl h0)

/-- The threshold words tell the positions of rank below `K`. -/
theorem kept_spec (vb : IVec S128x2048 32) (K : ℕ) (hb : ∀ i, (vb i).toNat < 1065353216) (hpos : 0 < K) (hK' : K ≤ 262144) (i : S128x2048.Idx) :
    keptBit vb (cutOf (F := Ideal) ((K : ℕ) : EReal) (found (F := Ideal) ((K : ℕ) : EReal) vb))
      (thrOf (F := Ideal) ((K : ℕ) : EReal) ((K : ℕ) : EReal) vb (found (F := Ideal) ((K : ℕ) : EReal) vb)) i = 1#1
      ↔ (nat32 vb i = 0 ∨ rankOf (nat32 vb) place i < K) := by
  rw [keptBit_iff]
  have hbi : nat32 vb i < 1065353216 := hb i
  have hpl := place_lt i
  have hpn : (BitVec.ofNat 32 (place i)).toNat = place i := by rw [BitVec.toNat_ofNat]; omega
  obtain ⟨v, hv, f1, f2, f3, f4, f5⟩ := found_spec vb K hb hpos hK'
  generalize found (F := Ideal) ((K : ℕ) : EReal) vb = st at f1 f2 f3
  have hc : cutOf (F := Ideal) ((K : ℕ) : EReal) st = BitVec.ofNat 32 v := by
    unfold cutOf; rw [ogt_nat_zero, select_ofBool, if_pos hpos, f1]
  have hvn : (BitVec.ofNat 32 v).toNat = v := by rw [BitVec.toNat_ofNat]; omega
  have hge := geCard_anti (nat32 vb) (show v ≤ v + 1 by omega)
  have hrest : restOf (F := Ideal) ((K : ℕ) : EReal) st = ((K - geCard (nat32 vb) (v + 1) : ℕ) : EReal) := by
    unfold restOf; rw [f3, sub_nat (by omega)]
  have hv0 : Scalar.cmpi .sgt st.1 0#32 = BitVec.ofBool (decide (0 < v)) := by
    rw [f1]
    show IntOp.cmpi .sgt (BitVec.ofNat 32 v) 0#32 = _
    rw [WordCmp.cmpi_sgt_eq, WordCmp.toInt_eq_toNat_of_lt_half (x := BitVec.ofNat 32 v) (by rw [hvn]; omega), hvn]
    congr 1
    rw [BitVec.toInt_zero]
    simp
  have hsp : splits (F := Ideal) ((K : ℕ) : EReal) ((K : ℕ) : EReal) st
      = BitVec.ofBool (decide (0 < v ∧ K - geCard (nat32 vb) (v + 1) < geCard (nat32 vb) v - geCard (nat32 vb) (v + 1))) := by
    unfold splits
    rw [hrest, f2, f3, sub_nat hge, olt_nat, ogt_nat_zero, hv0, decide_eq_true hpos]
    by_cases h1 : 0 < v <;> by_cases h2 : K - geCard (nat32 vb) (v + 1) < geCard (nat32 vb) v - geCard (nat32 vb) (v + 1) <;>
      simp only [h1, h2, and_self, and_false, false_and, decide_true, decide_false] <;> decide
  rw [hc, sgt_iff (by unfold nat32 at hbi; omega) (by omega), hvn]
  change ((v < nat32 vb i ∨ _) ∨ _) ↔ _
  have hta := tieCard_all (nat32 vb) v
  have hthr : thrOf (F := Ideal) ((K : ℕ) : EReal) ((K : ℕ) : EReal) vb st
      = if 0 < v ∧ K - geCard (nat32 vb) (v + 1) < geCard (nat32 vb) v - geCard (nat32 vb) (v + 1)
        then tie (F := Ideal) ((K - geCard (nat32 vb) (v + 1) : ℕ) : EReal) vb (BitVec.ofNat 32 v)
        else if 0 < v then 262143#32 else 4294967295#32 := by
    unfold thrOf
    rw [hsp, hrest, f1, ← f1, hv0, ogt_nat_zero, decide_eq_true hpos, f1]
    by_cases h1 : 0 < v ∧ K - geCard (nat32 vb) (v + 1) < geCard (nat32 vb) v - geCard (nat32 vb) (v + 1)
    · rw [if_pos h1, decide_eq_true h1, if_pos (by decide)]
    · rw [if_neg h1, decide_eq_false h1, if_neg (by decide)]
      by_cases h2 : 0 < v
      · rw [if_pos h2, decide_eq_true h2]; rfl
      · rw [if_neg h2, decide_eq_false h2]; rfl
  rw [hthr, ← kept_iff (nat32 vb) place hpos f4 f5
    (x := (tie (F := Ideal) ((K - geCard (nat32 vb) (v + 1) : ℕ) : EReal) vb (BitVec.ofNat 32 v)).toNat) ?_ i]
  · refine or_congr_left (or_congr_right (and_congr_right fun _ => ?_))
    by_cases h1 : 0 < v
    · by_cases h2 : K - geCard (nat32 vb) (v + 1) < geCard (nat32 vb) v - geCard (nat32 vb) (v + 1)
      · rw [if_pos ⟨h1, h2⟩]
        have ht := (tie_spec vb (BitVec.ofNat 32 v) (K - geCard (nat32 vb) (v + 1)) (by rw [hvn]; omega)).2
        rw [sle_iff (by omega) (by omega), hpn]
        exact ⟨fun h => ⟨h1, fun _ => h⟩, fun h => h.2 h2⟩
      · rw [if_neg fun h => h2 h.2, if_pos h1, sle_iff (by omega) (by decide), hpn]
        exact ⟨fun _ => ⟨h1, fun h => absurd h h2⟩, fun _ => by simp only [BitVec.toNat_ofNat]; omega⟩
    · rw [if_neg fun h => h1 h.1, if_neg h1]
      constructor
      · intro h
        rw [WordCmp.cmpi_sle_eq, WordCmp.toInt_eq_toNat_of_lt_half (by omega), hpn] at h
        have e : (4294967295#32 : BitVec 32).toInt = -1 := by decide
        rw [e, decide_eq_false (by omega)] at h
        exact absurd h (by decide)
      · intro h; exact absurd h.1 h1
  · intro h1 h2
    have ht := (tie_spec vb (BitVec.ofNat 32 v) (K - geCard (nat32 vb) (v + 1)) (by rw [hvn]; omega)).1
    rw [hvn] at ht
    exact ht

/-- An infinity or an integer is not above zero, or a number of positions, or above them all. -/
theorem rounded_cases (x : EReal) : Ideal.liftRound Ideal.roundHalfEven x ≤ 0
    ∨ (∃ K : ℕ, 0 < K ∧ K ≤ 262144 ∧ Ideal.liftRound Ideal.roundHalfEven x = (K : EReal))
    ∨ ∀ n : ℕ, n ≤ 262144 → (n : EReal) < Ideal.liftRound Ideal.roundHalfEven x := by
  induction x with
  | bot => exact Or.inl bot_le
  | top => exact Or.inr (Or.inr fun n _ => EReal.coe_lt_top (n : ℝ))
  | coe r =>
    rw [Ideal.liftRound_coe]
    generalize Ideal.roundHalfEven r = z
    rcases le_or_gt z 0 with h | h
    · left
      have : (z : ℝ) ≤ 0 := by exact_mod_cast h
      exact_mod_cast this
    · right
      obtain ⟨K, rfl⟩ := Int.eq_ofNat_of_zero_le h.le
      rcases le_or_gt K 262144 with h' | h'
      · exact Or.inl ⟨K, by omega, h', rfl⟩
      · refine Or.inr fun n hn => ?_
        have : (n : ℝ) < ((K : ℤ) : ℝ) := by exact_mod_cast (by omega : n < K)
        exact EReal.coe_lt_coe_iff.mpr this

/-- For any number to mask, the threshold words tell the positions of rank below it. -/
theorem kept_any (vb : IVec S128x2048 32) (hb : ∀ i, (vb i).toNat < 1065353216) (x kk : EReal) (hk : kk = Ideal.liftRound Ideal.roundHalfEven x)
    (i : S128x2048.Idx) :
    keptBit vb (cutOf (F := Ideal) kk (found (F := Ideal) (max kk 1) vb)) (thrOf (F := Ideal) kk (max kk 1) vb (found (F := Ideal) (max kk 1) vb)) i = 1#1
      ↔ (nat32 vb i = 0 ∨ ((rankOf (nat32 vb) place i : ℕ) : EReal) < kk) := by
  rcases rounded_cases x with h | ⟨K, h0, h1, h⟩ | h
  · rw [← hk] at h
    rw [kept_none vb hb kk h]
    refine ⟨Or.inl, fun h' => h'.resolve_right fun h' => ?_⟩
    exact absurd (h'.trans_le h) (not_lt.mpr (EReal.coe_nonneg.mpr (Nat.cast_nonneg (rankOf (nat32 vb) place i))))
  · rw [← hk] at h
    have hm : max kk 1 = kk := by
      rw [h]; exact max_eq_left (Nat.one_le_cast.mpr h0)
    rw [hm, h, kept_spec vb K hb h0 h1, Nat.cast_lt]
  · rw [← hk] at h
    have hr := rank_le (nat32 vb) i
    have h0 : (0 : EReal) < kk := lt_of_eq_of_lt Nat.cast_zero.symm (h 0 (by omega))
    have hs := found_none vb hb (max kk 1) fun n hn => lt_of_lt_of_le (h n hn) (le_max_left _ _)
    exact iff_of_true (kept_all vb hb kk h0 _ hs _ i) (Or.inr (h _ hr))

end Cert.Csdi
-- ==== Proof.Value.Loss.lean ====
/-
  A grid point's term as sums over all positions.
-/
module

public import proofs.«01_k».proof.Proof.Value.Mask
public import Idealize.ShloMosaic.Lib.ValueIdxCore

@[expose] public section

set_option maxRecDepth 16384

noncomputable section

namespace Cert.Csdi

open Cert.KernelIdeal Cert.KernelIdeal.Gen
open Idealize.ShloMosaic

/-- The position in the table of a position among eight rows. -/
def rowIdx (n : Fin 16) (j : S8x2048.Idx) : S128x2048.Idx := rows n (fun i => i) j

theorem rowIdx_0 (n : Fin 16) (j : S8x2048.Idx) : ((rowIdx n j) 0).val = 8 * n.val + (j 0).val := rfl
theorem rowIdx_1 (n : Fin 16) (j : S8x2048.Idx) : ((rowIdx n j) 1).val = (j 1).val := Nat.zero_add _

/-- Every position is one among some eight rows, and one only. -/
theorem rowIdx_bijective : Function.Bijective fun p : Fin 16 × S8x2048.Idx => rowIdx p.1 p.2 := by
  constructor
  · rintro ⟨n, j⟩ ⟨n', j'⟩ h
    have h : rowIdx n j = rowIdx n' j' := h
    have h0 := congrArg (fun i : S128x2048.Idx => (i 0).val) h
    have h1 := congrArg (fun i : S128x2048.Idx => (i 1).val) h
    dsimp only at h0 h1
    rw [rowIdx_0, rowIdx_0] at h0
    rw [rowIdx_1, rowIdx_1] at h1
    have b : (j 0).val < 8 := (j 0).isLt
    have b' : (j' 0).val < 8 := (j' 0).isLt
    have hn : n = n' := Fin.ext (by omega)
    have hj : j = j' := by
      funext a
      match a with
      | ⟨0, _⟩ => exact Fin.ext (show (j 0).val = (j' 0).val by omega)
      | ⟨1, _⟩ => exact Fin.ext h1
    rw [hn, hj]
  · intro i
    have b : (i 0).val < 128 := (i 0).isLt
    have b' : (i 1).val < 2048 := (i 1).isLt
    refine ⟨(⟨(i 0).val / 8, by omega⟩, ValueIdx.ix2 ⟨(i 0).val % 8, by omega⟩ (i 1)), ?_⟩
    funext a
    match a with
    | ⟨0, _⟩ => exact Fin.ext (show 8 * ((i 0).val / 8) + (i 0).val % 8 = (i 0).val by omega)
    | ⟨1, _⟩ => exact Fin.ext (Nat.zero_add _)

theorem sum16_at (f : Fin 16 → FVec Ideal S8x2048 .f32) (j : S8x2048.Idx) : (sum16 f j : EReal) = ∑ n : Fin 16, (f n j : EReal) := by
  simp only [Fin.sum_univ_castSucc, Fin.sum_univ_zero]
  show ((Scalar.ofBits .f32 0x00000000#32 : Ideal .f32) + _ + _ + _ + _ + _ + _ + _ + _ + _ + _ + _ + _ + _ + _ + _ + _ : EReal) = _
  rw [zero_word]
  rfl

/-- Sixteen blocks of eight rows added up are the sum over all positions. -/
theorem blocks_sum (f : Fin 16 → FVec Ideal S8x2048 .f32) (g : S128x2048.Idx → EReal) (h : ∀ n j, f n j = g (rowIdx n j)) :
    (total (sum16 f) : EReal) = ∑ i, g i := by
  rw [total_eq, ← Function.Bijective.sum_comp rowIdx_bijective g, Fintype.sum_prod_type_right]
  refine Finset.sum_congr rfl fun j _ => ?_
  rw [sum16_at]
  exact Finset.sum_congr rfl fun n _ => h n j

theorem places_at (n : Fin 16) (j : S8x2048.Idx) : places n j = BitVec.ofNat 32 (place (rowIdx n j)) := by
  have e0 : iota .tc S8x2048 32 [0] iota_S8x2048_d0_w32 j = BitVec.ofNat 32 (j 0).val := by
    unfold iota; simp
  have e1 : iota .tc S8x2048 32 [1] iota_S8x2048_d1_w32 j = BitVec.ofNat 32 (j 1).val := by
    unfold iota; simp
  show IntOp.addi (IntOp.addi (IntOp.muli (iota .tc S8x2048 32 [0] iota_S8x2048_d0_w32 j) 2048#32) (BitVec.ofNat 32 (16384 * n.val)))
    (iota .tc S8x2048 32 [1] iota_S8x2048_d1_w32 j) = _
  rw [e0, e1]
  unfold place
  rw [rowIdx_0, rowIdx_1]
  unfold IntOp.addi IntOp.muli
  apply BitVec.eq_of_toNat_eq
  simp only [BitVec.toNat_add, BitVec.toNat_mul, BitVec.toNat_ofNat]
  omega

/-- The evaluation mask at a position: the observation, where the position is kept. -/
theorem evald_at (om : FVec Ideal S128x2048 .f32) (vb : IVec S128x2048 32) (v thr : BitVec 32) (n : Fin 16) (j : S8x2048.Idx) :
    (evald om vb v thr n j : EReal) = om (rowIdx n j) * if keptBit vb v thr (rowIdx n j) = 1#1 then 1 else 0 := by
  show (om (rowIdx n j) : EReal) * (if IntOp.ori (IntOp.ori (IntOp.cmpi .sgt (vb (rowIdx n j)) v)
      (IntOp.andi (IntOp.cmpi .eq (vb (rowIdx n j)) v) (IntOp.cmpi .sle (places n j) thr)))
    (IntOp.cmpi .eq (vb (rowIdx n j)) 0#32) = 1#1 then (Scalar.ofBits .f32 0x3F800000#32 : Ideal .f32) else (Scalar.ofBits .f32 0x00000000#32 : Ideal .f32)) = _
  rw [places_at, one_word, zero_word]
  rfl

/-- The residual at a position. -/
def residAt (od noise w1 : EReal) (sa sb : EReal) : EReal := noise - (sa * od + sb * noise) * w1

/-- The term of a grid point: the sum of squared residuals over the kept observations, over their number and a little
    more, over the number of grid points. -/
theorem lossOf_eq (om od noise w1 : FVec Ideal S128x2048 .f32) (vb : IVec S128x2048 32) (v thr : BitVec 32) (sa sb : Ideal .f32)
    (e : S128x2048.Idx → EReal) (he : ∀ i, om i * (if keptBit vb v thr i = 1#1 then (1 : EReal) else 0) = e i) :
    (lossOf om od noise w1 vb v thr sa sb : EReal)
      = Ideal.div (∑ i, e i * residAt (od i) (noise i) (w1 i) sa sb * residAt (od i) (noise i) (w1 i) sa sb)
          ((∑ i, e i) + Ideal.ofBits .f32 0x358637BD#32) * Ideal.ofBits .f32 0x3C800000#32 := by
  unfold lossOf
  rw [blocks_sum _ (fun i => e i * residAt (od i) (noise i) (w1 i) sa sb * residAt (od i) (noise i) (w1 i) sa sb) ?_,
    blocks_sum _ e ?_]
  · rfl
  · intro n j
    rw [evald_at, he]
  · intro n j
    show (evald om vb v thr n j : EReal) * _ * _ = _
    rw [evald_at, he]
    rfl

end Cert.Csdi
-- ==== Proof.Value.Sample.lean ====
/-
  One sample: what a grid point adds is the reference's loss of that sample over the number of samples.
-/
module

public import proofs.«01_k».proof.Proof.Value.RefLoss
public import proofs.«01_k».proof.Proof.Value.RefCond
public import proofs.«01_k».proof.Proof.Value.Loss
public import proofs.«01_k».proof.Proof.Value.Round

@[expose] public section

set_option maxRecDepth 16384

noncomputable section

namespace Cert.Csdi

open Cert.KernelIdeal Cert.KernelIdeal.Gen
open Idealize.ShloMosaic

theorem pay6_at (v : Vec Ideal S1x2048x128 .f32) (i : S128x2048.Idx) : (k0_pay6 v i : EReal) = v (ix3 0 (i 1) (i 0)) := by
  show v (Shape.reshapeEquiv _ _) = v _
  congr 1
  apply Shape.reshapeEquiv_eq_of_rowMajor
  rw [Shape.rowMajor_val_three, Shape.rowMajor_val_two]
  show (0 * 2048 + (i 1).val) * 128 + (i 0).val = (i 1).val * 128 + (i 0).val
  omega

theorem pay7_at (v : Vec Ideal S1x2048x128 .f32) (i : S128x2048.Idx) : (k0_pay7 v i : EReal) = v (ix3 0 (i 1) (i 0)) := pay6_at v i

theorem pay8_at (v : Vec Ideal S1x128x2048 .f32) (i : S128x2048.Idx) : (k0_pay8 v i : EReal) = v (ix3 0 (i 0) (i 1)) := by
  show v (Shape.reshapeEquiv _ _) = v _
  congr 1
  apply Shape.reshapeEquiv_eq_of_rowMajor
  rw [Shape.rowMajor_val_three, Shape.rowMajor_val_two]
  show (0 * 128 + (i 0).val) * 2048 + (i 1).val = (i 0).val * 2048 + (i 1).val
  omega

theorem pay9_at (v0 : Vec Ideal S1x2048x128 .f32) (v6 : Vec Ideal S1x128x2048 .f32) (i : S128x2048.Idx) :
    (k0_pay9 v0 v6 i : EReal) = v6 (ix3 0 (i 0) (i 1)) * v0 (ix3 0 (i 1) (i 0)) :=
  congrArg₂ (fun p q : EReal => p * q) (pay8_at v6 i) (pay6_at v0 i)

/-- The sum of a sample's mask, in the kernel's layout and position by position. -/
theorem sum_block (v : S1x2048x128.Idx → EReal) : ∑ i : S1x2048x128.Idx, v i = ∑ i : S128x2048.Idx, v (ix3 0 (i 1) (i 0)) := by
  rw [sum_idx3, sum_idx2]
  simp only [Fin.sum_univ_one]
  rw [Finset.sum_comm]
  rfl

/-- Where the mask is one the squared residual counts, and where it is zero nothing does. -/
theorem square_eq (e r : EReal) (s n od c w2 : EReal) (h : (e = 0) ∨ (e = 1 ∧ c = 0)) (hr : r = n - s) :
    e * r * r = ((n - (s + c * od * w2)) * e) * ((n - (s + c * od * w2)) * e) := by
  rcases h with rfl | ⟨rfl, rfl⟩
  · simp
  · rw [zero_mul, zero_mul, add_zero, mul_one, one_mul, hr]

theorem square_nonneg (x : EReal) : 0 ≤ x * x := by
  rcases le_total 0 x with h | h
  · exact mul_nonneg h h
  · have h' : 0 ≤ -x := by rw [← neg_zero]; exact EReal.neg_le_neg_iff.mpr h
    have := mul_nonneg h' h'
    rwa [neg_mul_neg] at this

theorem eps_word : Ideal.ofBits .f32 0x358637BD#32 = ((wordVal 897988541 : ℝ) : EReal) := ofBits_wordVal 897988541 (by omega)

/-- A quotient by a number of positions and a little more is not below zero. -/
theorem div_nonneg_of (x y : EReal) (hx : 0 ≤ x) (hy : 0 ≤ y) : 0 ≤ Ideal.div x (y + Ideal.ofBits .f32 0x358637BD#32) := by
  have hp : (0 : EReal) < y + Ideal.ofBits .f32 0x358637BD#32 := by
    have he : (0 : EReal) < Ideal.ofBits .f32 0x358637BD#32 := by
      rw [eps_word]
      have := wordVal_strictMono (show 0 < 897988541 by omega)
      rw [wordVal_zero] at this
      exact_mod_cast this
    exact lt_of_lt_of_le he (le_add_of_nonneg_left hy)
  unfold Ideal.div
  rw [if_neg hp.ne']
  exact mul_nonneg hx (EReal.inv_nonneg_of_nonneg hp.le)

/-- What a grid point adds, from the sample's arrays. -/
theorem term_eq (v0 v3 : Vec Ideal S1x2048x128 .f32) (v6 v8 : Vec Ideal S1x128x2048 .f32) (v10 : Vec Ideal S128x2048 .f32)
    (ratio sa sb : Ideal .f32) (a0 a1 : FVec Ideal Cert.ReferenceIdeal.S64x2048x128 .f32) (a4 : IVec Cert.ReferenceIdeal.S64 32)
    (a5 a6 : FVec Ideal Cert.ReferenceIdeal.S64x128x2048 .f32) (a7 : FVec Ideal Cert.ReferenceIdeal.S64 .f32)
    (a8 a9 : FVec Ideal S128x2048 .f32) (b : Fin 64)
    (h0 : ∀ i : S128x2048.Idx, (v0 (ix3 0 (i 1) (i 0)) : EReal) = a1 (ix3 b (i 1) (i 0)))
    (h3 : ∀ i : S128x2048.Idx, (v3 (ix3 0 (i 1) (i 0)) : EReal) = a0 (ix3 b (i 1) (i 0)))
    (h6 : ∀ i : S128x2048.Idx, (v6 (ix3 0 (i 0) (i 1)) : EReal) = a6 (ix3 b (i 0) (i 1)))
    (h8 : ∀ i : S128x2048.Idx, (v8 (ix3 0 (i 0) (i 1)) : EReal) = a5 (ix3 b (i 0) (i 1)))
    (h10 : ∀ i : S128x2048.Idx, (v10 i : EReal) = a8 i)
    (hq : (ratio : EReal) = a7 (ix1 b)) (hsa : (sa : EReal) = rSa a4 b) (hsb : (sb : EReal) = rSb a4 b)
    (pm : ∀ i : S128x2048.Idx, (a1 (ix3 b (i 1) (i 0)) : EReal) = 0 ∨ (a1 (ix3 b (i 1) (i 0)) : EReal) = 1)
    (pr : ∀ i : S128x2048.Idx, ∃ n : ℕ, n < 8388608 ∧ (a6 (ix3 b (i 0) (i 1)) : EReal) = (((n : ℝ) / 8388608 : ℝ) : EReal)) :
    (termOf v0 v3 v6 v8 v10 ratio sa sb (found (kfOf v0 ratio) (words v0 v6)) : EReal)
      = (rAll a0 a1 a4 a5 a6 a7 a8 a9 (ix1 b) : EReal) * Ideal.ofBits .f32 0x3C800000#32
      ∧ (0 : EReal) ≤ rAll a0 a1 a4 a5 a6 a7 a8 a9 (ix1 b) := by
  -- the words of the values
  have hw : ∀ i : S128x2048.Idx, ∃ w : ℕ, w < 1065353216 ∧
      (a6 (ix3 b (i 0) (i 1)) : EReal) * a1 (ix3 b (i 1) (i 0)) = ((wordVal w : ℝ) : EReal) := by
    intro i
    rcases pm i with h | h
    · exact ⟨0, by omega, by rw [h, mul_zero, wordVal_zero]; rfl⟩
    · obtain ⟨n, hn, e⟩ := pr i
      obtain ⟨w, hlt, ew⟩ := wordVal_grid n hn
      exact ⟨w, hlt, by rw [h, mul_one, e, ew]⟩
  choose w hwl hwv using hw
  have hwords : ∀ i, words v0 v6 i = BitVec.ofNat 32 (w i) := fun i =>
    words_at v0 v6 i (w i) (hwl i) ((pay9_at v0 v6 i).trans (by rw [h6, h0]; exact hwv i))
  have hnat : ∀ i, (words v0 v6 i).toNat = w i := fun i => by
    rw [hwords, BitVec.toNat_ofNat]; have := hwl i; omega
  have hnat' : nat32 (words v0 v6) = w := funext hnat
  -- the number to mask
  have hsum : (∑ i : S1x2048x128.Idx, (v0 i : EReal)) * (ratio : EReal) = seen a1 b * (a7 (ix1 b) : EReal) := by
    rw [sum_block, hq]
    unfold seen
    rw [Finset.sum_congr rfl fun i _ => h0 i]
  have hkk := kkOf_eq v0 ratio _ hsum
  have hkf : kfOf v0 ratio = max (kkOf v0 ratio : EReal) 1 := congrArg (fun z : EReal => max (kkOf v0 ratio : EReal) z) one_word
  unfold termOf
  rw [hkf]
  generalize (kkOf v0 ratio : Ideal .f32) = kk at hkk hkf ⊢
  -- the two masks
  have hcond := rCond_at a1 a6 a7 b w hwv kk hkk
  have hkept := kept_any (words v0 v6) (fun i => by rw [hnat]; exact hwl i) _ kk hkk
  rw [hnat'] at hkept
  have hzero : ∀ i, (a1 (ix3 b (i 1) (i 0)) : EReal) = 0 → w i = 0 := fun i h => by
    have := hwv i
    rw [h, mul_zero] at this
    have h' : wordVal (w i) = wordVal 0 := by rw [wordVal_zero]; exact_mod_cast this.symm
    exact wordVal_strictMono.injective h'
  have hall := rAll_at a0 a1 a4 a5 a6 a7 a8 a9 b _ _ _ hcond (fun _ => rfl) (fun _ => rfl)
  have hmask : ∀ i : S128x2048.Idx, (a1 (ix3 b (i 1) (i 0)) : EReal) * (if (w i = 0 ∨ ((rankOf w place i : ℕ) : EReal) < kk) then (1 : EReal) else 0)
      = (a1 (ix3 b (i 1) (i 0)) : EReal) - (if (w i = 0 ∨ ((rankOf w place i : ℕ) : EReal) < kk) then (0 : EReal) else 1) := by
    intro i
    rcases pm i with h | h
    · rw [h, if_pos (Or.inl (hzero i h)), if_pos (Or.inl (hzero i h))]; simp
    · rw [h]
      split
      · simp
      · rw [mul_zero]
        show (0 : EReal) = ((1 : ℝ) : EReal) - ((1 : ℝ) : EReal)
        rw [← EReal.coe_sub, sub_self]; rfl
  rw [hall]
  refine ⟨?_, div_nonneg_of _ _ (Finset.sum_nonneg fun i _ => square_nonneg _) (Finset.sum_nonneg fun i _ => ?_)⟩
  swap
  · rw [← hmask]
    rcases pm i with h | h <;> rw [h] <;> split <;> simp
  rw [lossOf_eq _ _ _ _ _ _ _ _ _ (fun i => (a1 (ix3 b (i 1) (i 0)) : EReal) - (if (w i = 0 ∨ ((rankOf w place i : ℕ) : EReal) < kk) then (0 : EReal) else 1))
    (fun i => by
      rw [pay6_at, h0, ← hmask]
      congr 1
      exact if_congr (hkept i) rfl rfl)]
  congr 2
  refine Finset.sum_congr rfl fun i _ => ?_
  refine square_eq _ _ _ _ _ _ _ ?_ ?_
  · rw [← hmask]
    split
    · rcases pm i with h | h
      · left; rw [h, zero_mul]
      · right; rw [h, mul_one]; exact ⟨rfl, rfl⟩
    · left; rw [mul_zero]
  · unfold residAt
    rw [pay7_at, pay8_at, h3, h8, h10, hsa, hsb]

end Cert.Csdi
-- ==== Proof.Value.Blocks.lean ====
/-
  What each grid point's blocks hold, element by element, in terms of the launch's arguments.
-/
module

public import proofs.«01_k».proof.Proof.Value.RefLoss
public import proofs.«01_k».proof.Proof.Run.Launch
public import Idealize.ShloMosaic.Lib.Pipeline.ValueKit.Point

@[expose] public section

set_option maxRecDepth 16384

noncomputable section

namespace Cert.Csdi

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The three scalars' and the four samples' windows sit at the grid point's own sample; the weight's stays. -/
theorem window_at : ∀ t : Fin (cfg0 (F := Ideal)).N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![0, 0] :=
  (by decide +kernel : ∀ t : Fin grid0.N, _)

variable (t : Fin (cfg0 (F := Ideal)).N) (b : Fin 64) (hb : b.val = t.val)

include hb

/-- The mask's block. -/
theorem block_mask (l : Fin 2048) (k : Fin 128) : blockAt m c 4 t (ix3 0 l k) = m ((c : Thread nD τ).loc main_arg1) (ix3 b l k) := by
  unfold blockAt
  blk_ext [window_at t, hb]

/-- The data's block. -/
theorem block_data (l : Fin 2048) (k : Fin 128) : blockAt m c 3 t (ix3 0 l k) = m ((c : Thread nD τ).loc main_arg0) (ix3 b l k) := by
  unfold blockAt
  blk_ext [window_at t, hb]

/-- The noise's block. -/
theorem block_noise (k : Fin 128) (l : Fin 2048) : blockAt m c 5 t (ix3 0 k l) = m ((c : Thread nD τ).loc main_arg5) (ix3 b k l) := by
  unfold blockAt
  blk_ext [window_at t, hb]

/-- The draws' block. -/
theorem block_draw (k : Fin 128) (l : Fin 2048) : blockAt m c 6 t (ix3 0 k l) = m ((c : Thread nD τ).loc main_arg6) (ix3 b k l) := by
  unfold blockAt
  blk_ext [window_at t, hb]

omit hb in
/-- The weight's block is the whole weight. -/
theorem block_weight (i : S128x2048.Idx) : blockAt m c 7 t i = m ((c : Thread nD τ).loc main_arg8) i := by
  unfold blockAt
  blk_ext [window_at t]

omit hb in
/-- A vector of one number per sample, laid out as single-element blocks, at a sample. -/
theorem column_at (v : FVec Ideal S64 .f32) : shapeCast S64x1x1 v shapeCasts_S64_S64x1x1 (ValueIdx.ix3 b 0 0) = v (ix1 b) := by
  show v (Shape.reshapeEquiv _ _) = v _
  congr 1
  apply Shape.reshapeEquiv_eq_of_rowMajor
  rw [Shape.rowMajor_val_three, Shape.rowMajor_val_one]
  show b.val = (b.val * 1 + 0) * 1 + 0
  omega

/-- The ratio's block. -/
theorem block_ratio : blockAt m c 2 t (ValueIdx.ix3 0 0 0) = m ((c : Thread nD τ).loc main_arg7) (ix1 b) := by
  have e : blockAt m c 2 t (ValueIdx.ix3 0 0 0) = entry m c main_v13 (ValueIdx.ix3 b 0 0) := by
    unfold blockAt
    blk_ext [window_at t, hb]
  rw [e]
  unfold entry
  entry_read
  exact column_at b _

/-- The data's weight. -/
theorem block_sa : blockAt m c 0 t (ValueIdx.ix3 0 0 0) = rSa (m ((c : Thread nD τ).loc main_arg4)) b := by
  have e : blockAt m c 0 t (ValueIdx.ix3 0 0 0) = entry m c main_v8 (ValueIdx.ix3 b 0 0) := by
    unfold blockAt
    blk_ext [window_at t, hb]
  rw [e]
  unfold entry
  entry_read
  exact column_at b _

/-- The noise's weight. -/
theorem block_sb : blockAt m c 1 t (ValueIdx.ix3 0 0 0) = rSb (m ((c : Thread nD τ).loc main_arg4)) b := by
  have e : blockAt m c 1 t (ValueIdx.ix3 0 0 0) = entry m c main_v12 (ValueIdx.ix3 b 0 0) := by
    unfold blockAt
    blk_ext [window_at t, hb]
  rw [e]
  unfold entry
  entry_read
  exact column_at b _

end Cert.Csdi
-- ==== Proof.Value.Drawn.lean ====
/-
  The precondition, read element by element.
-/
module

public import proofs.«01_k».proof.Defs
public import proofs.«01_k».proof.Proof.Gen.Pre_drawn
public import proofs.«01_k».proof.Proof.Value.Word
public import proofs.«01_k».proof.Proof.Value.Mask
public import Idealize.ShloMosaic.Lib.ReduceAll
public import Idealize.ShloMosaic.Lib.Affine

@[expose] public section

set_option maxRecDepth 16384

noncomputable section

namespace Cert.Csdi

open Cert.KernelIdeal Cert.KernelIdeal.Gen
open Idealize.ShloMosaic Idealize.ShloMosaic.TcCoe Idealize.ShloMosaic.Tactic

/-- The number of words a draw can be. -/
theorem draws_word : Ideal.ofBits .f32 0x4B000000#32 = ((8388608 : ℝ) : EReal) := by
  exact (ofBits_wordVal 1258291200 (by decide)).trans (by unfold wordVal; norm_num)

/-- A number of the unit interval that is whole after scaling is a draw. -/
theorem draw_of_floor (x : EReal) (hf : x * ((8388608 : ℝ) : EReal) = Ideal.liftRound Int.floor (x * ((8388608 : ℝ) : EReal)))
    (h0 : 0 ≤ x) (h1 : x < ((1 : ℝ) : EReal)) : ∃ n : ℕ, n < 8388608 ∧ x = (((n : ℝ) / 8388608 : ℝ) : EReal) := by
  have hb : x ≠ ⊥ := ne_of_gt (lt_of_lt_of_le EReal.bot_lt_zero h0)
  lift x to ℝ using ⟨(lt_of_lt_of_le h1 le_top).ne, hb⟩
  rw [← EReal.coe_mul, Ideal.liftRound_coe, EReal.coe_eq_coe_iff] at hf
  have h0' : (0 : ℝ) ≤ x := EReal.coe_nonneg.mp h0
  have h1' : x < 1 := EReal.coe_lt_coe_iff.mp h1
  have hz : 0 ≤ ⌊x * 8388608⌋ := Int.floor_nonneg.mpr (by positivity)
  obtain ⟨n, hn⟩ := Int.eq_ofNat_of_zero_le hz
  rw [hn] at hf
  have hx : x * 8388608 = (n : ℝ) := by rw [hf]; simp
  refine ⟨n, ?_, ?_⟩
  · have : (n : ℝ) < 8388608 := by rw [← hx]; linarith
    exact_mod_cast this
  · rw [EReal.coe_eq_coe_iff, ← hx]; field_simp

/-- A test's flag is set exactly where the test holds. -/
theorem of_flag {p : Prop} [Decidable p] (h : BitVec.ofBool (decide p) = 1#1) : p := by
  by_contra hp
  simp [hp] at h

/-- What the precondition says of the masks and the draws. -/
theorem drawn_at (a0 a1 : FVec Ideal S64x2048x128 .f32) (a2 : FVec Ideal S64x2048 .f32) (a3 : FVec Ideal S64x2048x128 .f32) (a4 : IVec S64 32)
    (a5 a6 : FVec Ideal S64x128x2048 .f32) (a7 : FVec Ideal S64 .f32) (a8 a9 : FVec Ideal S128x2048 .f32)
    (h : Cert.Pre_drawn.fn (F := Ideal) a0 a1 a2 a3 a4 a5 a6 a7 a8 a9 = fun _ => 1#1) :
    (∀ i, (a1 i : EReal) = 0 ∨ (a1 i : EReal) = 1)
    ∧ (∀ i, ∃ n : ℕ, n < 8388608 ∧ (a6 i : EReal) = (((n : ℝ) / 8388608 : ℝ) : EReal)) := by
  have e := congrFun h (Shape.Idx.first Cert.Pre_drawn.Gen.facts.h_S_)
  dsimp only [Cert.Pre_drawn.fn, Cert.Pre_drawn.fn_part1] at e
  obtain ⟨e1, e2⟩ := IntOp.andi_eq_one.mp e
  refine ⟨fun i => ?_, fun i => ?_⟩
  · have q := Host.reduce_andi_all _ _ _ _ _ e1 i
    rcases ori_eq_one.mp q with q | q
    · exact Or.inl ((of_flag q).trans zero_word)
    · exact Or.inr ((of_flag q).trans one_word)
  · have q := Host.reduce_andi_all _ _ _ _ _ e2 i
    obtain ⟨q12, q3⟩ := IntOp.andi_eq_one.mp q
    obtain ⟨q1, q2⟩ := IntOp.andi_eq_one.mp q12
    have f1 : (a6 i : EReal) * Ideal.ofBits .f32 0x4B000000#32 = Ideal.liftRound Int.floor ((a6 i : EReal) * Ideal.ofBits .f32 0x4B000000#32) := of_flag q1
    have f2 : Ideal.ofBits .f32 0x00000000#32 ≤ (a6 i : EReal) := of_flag q2
    have f3 : (a6 i : EReal) < Ideal.ofBits .f32 0x3F800000#32 := of_flag q3
    rw [draws_word] at f1
    exact draw_of_floor _ f1 (le_of_eq_of_le zero_word.symm f2) (lt_of_lt_of_eq f3 one_word)

end Cert.Csdi
-- ==== Proof.Value.Join.lean ====
/-
  The value claim: from arguments as drawn, the kernel's result and the reference's are the same number.
-/
module

public import proofs.«01_k».proof.Proof.Value.Sample
public import proofs.«01_k».proof.Proof.Value.Blocks
public import proofs.«01_k».proof.Proof.Value.Drawn
public import proofs.«01_k».proof.Proof.Run.Ends

@[expose] public section

set_option maxRecDepth 16384

noncomputable section

namespace Cert.Csdi

open Cert.KernelIdeal Cert.KernelIdeal.Gen
open Idealize.ShloMosaic Idealize.ShloMosaic.TcCoe Idealize.ShloMosaic.Tactic
open Idealize.SL.Sem

/-- The kernel's factor is one over the number of samples, -/
theorem share_word : Ideal.ofBits .f32 0x3C800000#32 = ((1 / 64 : ℝ) : EReal) :=
  (ofBits_wordVal 1015021568 (by decide)).trans (by unfold wordVal; norm_num)

/-- and the reference divides by that number. -/
theorem samples_word : Ideal.ofBits .f32 0x42800000#32 = ((64 : ℝ) : EReal) :=
  (ofBits_wordVal 1115684864 (by decide)).trans (by unfold wordVal; norm_num)

/-- A factor leaves a sum of numbers that are not negative. -/
theorem sum_mul_right {ι : Type} (s : Finset ι) (f : ι → EReal) (k : EReal) (hf : ∀ i ∈ s, 0 ≤ f i) : ∑ i ∈ s, f i * k = (∑ i ∈ s, f i) * k := by
  classical
  induction s using Finset.induction_on with
  | empty => simp
  | insert a s ha ih =>
    have hs : ∀ i ∈ s, 0 ≤ f i := fun i hi => hf i (Finset.mem_insert_of_mem hi)
    rw [Finset.sum_insert ha, Finset.sum_insert ha, ih hs,
      EReal.right_distrib_of_nonneg (hf a (Finset.mem_insert_self a s)) (Finset.sum_nonneg hs)]

variable (m : (ℓ : Loc nD τ sig) → Buf (Elt Ideal) ℓ) (c : Dev nD)

/-- The reference's losses of the samples, of the kernel's arguments. -/
def losses : FVec Ideal S64 .f32 :=
  rAll (m ((c : Thread nD τ).loc main_arg0)) (m ((c : Thread nD τ).loc main_arg1)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- What a grid point adds is its sample's loss over the number of samples. -/
theorem termAt_eq (hpre : Cert.Pre_KernelIdeal_drawn m) (t : Fin (cfg0 (F := Ideal)).N) (b : Fin 64) (hb : b.val = t.val) :
    (termAt m c t : EReal) = (losses m c (ix1 b) : EReal) * Ideal.ofBits .f32 0x3C800000#32 ∧ (0 : EReal) ≤ losses m c (ix1 b) := by
  obtain ⟨pm, pr⟩ := drawn_at _ _ _ _ _ _ _ _ _ _ (hpre c)
  unfold termAt losses
  exact term_eq _ _ _ _ _ _ _ _ _ _ _ _ _ _ _ _ b
    (fun i => block_mask m c t b hb (i 1) (i 0)) (fun i => block_data m c t b hb (i 1) (i 0))
    (fun i => block_draw m c t b hb (i 0) (i 1)) (fun i => block_noise m c t b hb (i 0) (i 1)) (fun i => block_weight m c t i)
    (block_ratio m c t b hb) (block_sa m c t b hb) (block_sb m c t b hb)
    (fun i => pm _) (fun i => pr _)

/-- The terms by the grid point's number. -/
def term (n : ℕ) : EReal := if h : n < (cfg0 (F := Ideal)).N then termAt m c ⟨n, h⟩ else 0

theorem term_of_lt (n : ℕ) (h : n < (cfg0 (F := Ideal)).N) : term m c n = termAt m c ⟨n, h⟩ := dif_pos h

/-- The accumulator is the sum of the terms so far. -/
theorem accAt_eq : ∀ (n : ℕ) (hn : n < (cfg0 (F := Ideal)).N), (accAt m c n hn : EReal) = ∑ t ∈ Finset.range (n + 1), term m c t
  | 0, hn => by
    rw [Finset.sum_range_one, term_of_lt m c 0 hn]
    exact (congrArg (fun z : EReal => z + termAt m c ⟨0, hn⟩) zero_word).trans (zero_add _)
  | n + 1, hn => by
    rw [Finset.sum_range_succ, term_of_lt m c (n + 1) hn, ← accAt_eq n (Nat.lt_of_succ_lt hn)]
    rfl

/-- The kernel's result is the reference's mean. -/
theorem acc_mean (hpre : Cert.Pre_KernelIdeal_drawn m) (j : S1x1.Idx) : (accAt m c 63 last_lt : EReal) = rMean (losses m c) j := by
  have hN : (cfg0 (F := Ideal)).N = 64 := N_0
  have ht : ∀ b : Fin 64, term m c b.val = (losses m c (ix1 b) : EReal) * Ideal.ofBits .f32 0x3C800000#32 := fun b =>
    (term_of_lt m c b.val (lt_of_lt_of_eq b.isLt hN.symm)).trans (termAt_eq m c hpre ⟨b.val, lt_of_lt_of_eq b.isLt hN.symm⟩ b rfl).1
  have h0 : ∀ b : Fin 64, (0 : EReal) ≤ losses m c (ix1 b) := fun b => (termAt_eq m c hpre ⟨b.val, lt_of_lt_of_eq b.isLt hN.symm⟩ b rfl).2
  rw [accAt_eq, ← Fin.sum_univ_eq_sum_range (term m c) 64, Finset.sum_congr rfl (fun b _ => ht b), sum_mul_right _ _ _ (fun b _ => h0 b),
    rMean_at, share_word, samples_word, Ideal.div_coe (by norm_num)]

/-- From the same arguments, as drawn, the kernel and the reference end with the same loss. -/
theorem value : Cert.algebraic_KernelIdeal_ReferenceIdeal_pre_drawn := by
  intro m g m' g' hpre hagree
  refine ⟨fun c => fun _ => accAt m c 63 last_lt, (θ_run _ _ _).mono (fun r h c => h.1 c) (run_ends m g),
    (θ_run _ _ _).mono (fun r h c => ⟨(h c).1.trans ?_, (h c).2⟩) (Cert.ReferenceIdeal.Value.run m' g')⟩
  obtain ⟨e0, e1, -, -, e4, e5, e6, e7, e8, e9⟩ := hagree c
  rw [res_eq m' c, e0, e1, e4, e5, e6, e7, e8, e9]
  funext j
  exact (acc_mean m c hpre j).symm

end Cert.Csdi
-- ==== Proof.lean ====
/-
  The certificate of the imputation loss: the frames of the three programs, the kernel unchanged between its two
  readings, and the kernel's loss equal to the reference's on the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_drawn
public import proofs.«01_k».proof.Proof.Run.Ends
public import proofs.«01_k».proof.Proof.RunBits.Ends
public import proofs.«01_k».proof.Proof.Value.Join

@[expose] public section

noncomputable section

namespace Cert.Csdi

open Idealize.ShloMosaic Idealize.ShloMosaic.TcCoe Idealize.SL.Sem

/-- The kernel's frame on words of bits. -/
theorem frame_kernel : Cert.quiescent_Kernel := fun m ρ _ =>
  (θ_run Cert.Kernel.defs _ _).mono (fun _ h => ⟨fun c => (h.1 c).2, h.2⟩) (CsdiBits.run_ends (F := Bits) m ρ)

/-- The kernel's frame on the extended reals. -/
theorem frame_ideal : Cert.quiescent_KernelIdeal := fun m ρ _ =>
  (θ_run Cert.KernelIdeal.defs _ _).mono (fun _ h => ⟨fun c => (h.1 c).2, h.2⟩) (run_ends (F := Ideal) m ρ)

/-- The same under the precondition. -/
theorem frame_ideal_drawn : Cert.quiescent_KernelIdeal_pre_drawn := fun m ρ _ => frame_ideal m ρ (by trivial)

/-- The reference's frame: its run changes no argument, and it declares no counter. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The same under the precondition. -/
theorem frame_reference_drawn : Cert.quiescent_ReferenceIdeal_pre_drawn := fun m ρ _ => frame_reference m ρ (by trivial)

end Cert.Csdi

namespace Cert.Proof

/-- Every claim of the certificate. -/
theorem claim : Cert.Claim := ⟨Cert.Kernel.Gen.facts, Cert.KernelIdeal.Gen.facts, Cert.ReferenceIdeal.Gen.facts, Cert.Pre_drawn.Gen.facts,
  Cert.Csdi.frame_kernel, Cert.Csdi.frame_ideal, Cert.Csdi.frame_ideal_drawn, Cert.Csdi.frame_reference, Cert.Csdi.frame_reference_drawn, by trivial, Cert.Csdi.value⟩

end Cert.Proof

end
